-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "four_n_diag_sq" .f32 0x50136695#32 ((9891893764 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x3x8x224x224 : Shape := ⟨5, ![32, 3, 8, 224, 224]⟩
abbrev S32x3x8x14x3584 : Shape := ⟨5, ![32, 3, 8, 14, 3584]⟩
abbrev S256x1x6 : Shape := ⟨3, ![256, 1, 6]⟩
abbrev S1x3x2x224x224 : Shape := ⟨5, ![1, 3, 2, 224, 224]⟩
abbrev S1x3x2x14x3584 : Shape := ⟨5, ![1, 3, 2, 14, 3584]⟩
abbrev S2x1x6 : Shape := ⟨3, ![2, 1, 6]⟩
abbrev S1x3x1x224x224 : Shape := ⟨5, ![1, 3, 1, 224, 224]⟩
abbrev S3x224x224 : Shape := ⟨3, ![3, 224, 224]⟩
abbrev S1x3x1x14x3584 : Shape := ⟨5, ![1, 3, 1, 14, 3584]⟩
abbrev S3x14x3584 : Shape := ⟨3, ![3, 14, 3584]⟩
abbrev S1x224x224 : Shape := ⟨3, ![1, 224, 224]⟩
abbrev S224x224 : Shape := ⟨2, ![224, 224]⟩
abbrev S1x14x3584 : Shape := ⟨3, ![1, 14, 3584]⟩
abbrev S14x3584 : Shape := ⟨2, ![14, 3584]⟩
abbrev S1 : Shape := ⟨1, ![1]⟩
abbrev S1x1x1 : Shape := ⟨3, ![1, 1, 1]⟩
abbrev S224x1 : Shape := ⟨2, ![224, 1]⟩
abbrev S1x224 : Shape := ⟨2, ![1, 224]⟩
abbrev S224x223 : Shape := ⟨2, ![224, 223]⟩
abbrev S225x224 : Shape := ⟨2, ![225, 224]⟩
abbrev S17x224x256 : Shape := ⟨3, ![17, 224, 256]⟩
abbrev S256x3584 : Shape := ⟨2, ![256, 3584]⟩
abbrev S256x256 : Shape := ⟨2, ![256, 256]⟩
abbrev S17x224 : Shape := ⟨2, ![17, 224]⟩
abbrev S17x224x1 : Shape := ⟨3, ![17, 224, 1]⟩
abbrev S3808x256 : Shape := ⟨2, ![3808, 256]⟩
abbrev S1x3584 : Shape := ⟨2, ![1, 3584]⟩
abbrev S3584x256 : Shape := ⟨2, ![3584, 256]⟩
abbrev S1x256x256 : Shape := ⟨3, ![1, 256, 256]⟩

abbrev nBuf : Space → Nat
  | .hbm => 3
  | .vmem => 4
  | .smem => 2
  | _ => 0

abbrev bufTy : (tb : Table) → Fin (tcTables nBuf tb) → BufTy
  | .hbm, ⟨0, _⟩ => ⟨S32x3x8x224x224, .f32⟩
  | .hbm, ⟨1, _⟩ => ⟨S32x3x8x14x3584, .f32⟩
  | .hbm, ⟨2, _⟩ => ⟨S256x1x6, .f32⟩
  | .local _ .vmem, ⟨0, _⟩ => ⟨S1x3x2x224x224, .f32⟩
  | .local _ .vmem, ⟨1, _⟩ => ⟨S1x3x2x224x224, .f32⟩
  | .local _ .vmem, ⟨2, _⟩ => ⟨S1x3x2x14x3584, .f32⟩
  | .local _ .vmem, ⟨3, _⟩ => ⟨S1x3x2x14x3584, .f32⟩
  | .local _ .smem, ⟨0, _⟩ => ⟨S2x1x6, .f32⟩
  | .local _ .smem, ⟨1, _⟩ => ⟨S2x1x6, .f32⟩
  | _, _ => ⟨S32x3x8x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_stg2_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2x14x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S2x1x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "four_n_diag_sq" => some ((9891893764 : ℝ) : EReal)
  | _ => none
-- ==== ReferenceIdeal.lean ====
abbrev S32x3x8x224x224 : Shape := ⟨5, ![32, 3, 8, 224, 224]⟩
abbrev S_ : Shape := ⟨0, ![]⟩
abbrev S32x8x224x224 : Shape := ⟨4, ![32, 8, 224, 224]⟩
abbrev S256x224x224 : Shape := ⟨3, ![256, 224, 224]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x1x1 : Shape := ⟨3, ![256, 1, 1]⟩
abbrev S256x224x223 : Shape := ⟨3, ![256, 224, 223]⟩
abbrev S256x49952 : Shape := ⟨2, ![256, 49952]⟩
abbrev S256x65536 : Shape := ⟨2, ![256, 65536]⟩
abbrev S256x49952x1 : Shape := ⟨3, ![256, 49952, 1]⟩
abbrev S256x49952x2 : Shape := ⟨3, ![256, 49952, 2]⟩
abbrev S256x256x256 : Shape := ⟨3, ![256, 256, 256]⟩
abbrev S1x256x256 : Shape := ⟨3, ![1, 256, 256]⟩
abbrev S256x223x223 : Shape := ⟨3, ![256, 223, 223]⟩
abbrev S256x49729 : Shape := ⟨2, ![256, 49729]⟩
abbrev S256x49729x1 : Shape := ⟨3, ![256, 49729, 1]⟩
abbrev S256x49729x2 : Shape := ⟨3, ![256, 49729, 2]⟩
abbrev S256x223x224 : Shape := ⟨3, ![256, 223, 224]⟩
abbrev S256x6 : Shape := ⟨2, ![256, 6]⟩
abbrev S256x1x6 : Shape := ⟨3, ![256, 1, 6]⟩

abbrev nBuf : Space → Nat
  | .hbm => 332
  | .vmem => 0
  | .smem => 0
  | _ => 0

abbrev hbmTy0_0 (i : Nat) : BufTy := match i % 128 with
  | 0 => ⟨S32x3x8x224x224, .f32⟩
  | 1 => ⟨S_, .f32⟩
  | 2 => ⟨S32x8x224x224, .f32⟩
  | 3 => ⟨S_, .f32⟩
  | 4 => ⟨S32x8x224x224, .f32⟩
  | 5 => ⟨S32x8x224x224, .f32⟩
  | 6 => ⟨S_, .f32⟩
  | 7 => ⟨S32x8x224x224, .f32⟩
  | 8 => ⟨S32x8x224x224, .f32⟩
  | 9 => ⟨S32x8x224x224, .f32⟩
  | 10 => ⟨S_, .i32⟩
  | 11 => ⟨S_, .i32⟩
  | 12 => ⟨S_, .f32⟩
  | 13 => ⟨S32x8x224x224, .f32⟩
  | 14 => ⟨S32x8x224x224, .f32⟩
  | 15 => ⟨S_, .f32⟩
  | 16 => ⟨S32x8x224x224, .f32⟩
  | 17 => ⟨S32x8x224x224, .f32⟩
  | 18 => ⟨S32x8x224x224, .i32⟩
  | 19 => ⟨S256x224x224, .i32⟩
  | 20 => ⟨S256, .i32⟩
  | 21 => ⟨S256x1, .i32⟩
  | 22 => ⟨S1x256, .i32⟩
  | 23 => ⟨S256x256, .i32⟩
  | 24 => ⟨S256x256, .i32⟩
  | 25 => ⟨S256x256, .i32⟩
  | 26 => ⟨S256x256, .i32⟩
  | 27 => ⟨S256x256, .f32⟩
  | 28 => ⟨S256x256, .i32⟩
  | 29 => ⟨S256x256, .f32⟩
  | 30 => ⟨S_, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S256x224x224, .f32⟩
  | 37 => ⟨S_, .i32⟩
  | 38 => ⟨S_, .f32⟩
  | 39 => ⟨S256, .f32⟩
  | 40 => ⟨S256x1x1, .f32⟩
  | 41 => ⟨S_, .f32⟩
  | 42 => ⟨S256x1x1, .f32⟩
  | 43 => ⟨S256x1x1, .f32⟩
  | 44 => ⟨S256x224x224, .f32⟩
  | 45 => ⟨S256x224x224, .f32⟩
  | 46 => ⟨S256x224x224, .f32⟩
  | 47 => ⟨S_, .f32⟩
  | 48 => ⟨S_, .f32⟩
  | 49 => ⟨S_, .f32⟩
  | 50 => ⟨S_, .f32⟩
  | 51 => ⟨S256, .f32⟩
  | 52 => ⟨S256, .f32⟩
  | 53 => ⟨S256, .f32⟩
  | 54 => ⟨S_, .f32⟩
  | 55 => ⟨S_, .i1⟩
  | 56 => ⟨S_, .f32⟩
  | 57 => ⟨S_, .f32⟩
  | 58 => ⟨S256, .f32⟩
  | 59 => ⟨S256, .f32⟩
  | 60 => ⟨S256, .f32⟩
  | 61 => ⟨S256, .i32⟩
  | 62 => ⟨S256x1, .i32⟩
  | 63 => ⟨S256x224x223, .i32⟩
  | 64 => ⟨S256x224x223, .i32⟩
  | 65 => ⟨S_, .i32⟩
  | 66 => ⟨S256x224x223, .i32⟩
  | 67 => ⟨S256x224x223, .i32⟩
  | 68 => ⟨S256x224x223, .i32⟩
  | 69 => ⟨S256x49952, .i32⟩
  | 70 => ⟨S_, .f32⟩
  | 71 => ⟨S256x65536, .f32⟩
  | 72 => ⟨S_, .i32⟩
  | 73 => ⟨S256x1, .i32⟩
  | 74 => ⟨S256x1, .i1⟩
  | 75 => ⟨S_, .i32⟩
  | 76 => ⟨S256x1, .i32⟩
  | 77 => ⟨S256x1, .i32⟩
  | 78 => ⟨S256x1, .i32⟩
  | 79 => ⟨S_, .i32⟩
  | 80 => ⟨S256x49952, .i32⟩
  | 81 => ⟨S256x49952, .i1⟩
  | 82 => ⟨S_, .i32⟩
  | 83 => ⟨S256x49952, .i32⟩
  | 84 => ⟨S256x49952, .i32⟩
  | 85 => ⟨S256x49952, .i32⟩
  | 86 => ⟨S256x49952, .i32⟩
  | 87 => ⟨S256x49952x1, .i32⟩
  | 88 => ⟨S256x49952x1, .i32⟩
  | 89 => ⟨S256x49952x2, .i32⟩
  | 90 => ⟨S_, .f32⟩
  | 91 => ⟨S256x49952, .f32⟩
  | 92 => ⟨S256x65536, .f32⟩
  | 93 => ⟨S256x256x256, .f32⟩
  | 94 => ⟨S256x256x256, .f32⟩
  | 95 => ⟨S256x256x256, .f32⟩
  | 96 => ⟨S_, .f32⟩
  | 97 => ⟨S256, .f32⟩
  | 98 => ⟨S256x1x1, .f32⟩
  | 99 => ⟨S256x256x256, .f32⟩
  | 100 => ⟨S256x256x256, .f32⟩
  | 101 => ⟨S1x256x256, .f32⟩
  | 102 => ⟨S256x256x256, .f32⟩
  | 103 => ⟨S256x256x256, .f32⟩
  | 104 => ⟨S_, .f32⟩
  | 105 => ⟨S256, .f32⟩
  | 106 => ⟨S_, .f32⟩
  | 107 => ⟨S256, .f32⟩
  | 108 => ⟨S256, .f32⟩
  | 109 => ⟨S1x256x256, .f32⟩
  | 110 => ⟨S256x256x256, .f32⟩
  | 111 => ⟨S256x256x256, .f32⟩
  | 112 => ⟨S_, .f32⟩
  | 113 => ⟨S256, .f32⟩
  | 114 => ⟨S_, .f32⟩
  | 115 => ⟨S256, .f32⟩
  | 116 => ⟨S256, .f32⟩
  | 117 => ⟨S1x256x256, .f32⟩
  | 118 => ⟨S256x256x256, .f32⟩
  | 119 => ⟨S256x256x256, .f32⟩
  | 120 => ⟨S_, .f32⟩
  | 121 => ⟨S256, .f32⟩
  | 122 => ⟨S_, .f32⟩
  | 123 => ⟨S256, .f32⟩
  | 124 => ⟨S256, .f32⟩
  | 125 => ⟨S256x256x256, .f32⟩
  | 126 => ⟨S_, .f32⟩
  | 127 => ⟨S256, .f32⟩
  | _ => ⟨S32x3x8x224x224, .f32⟩

abbrev hbmTy0_1 (i : Nat) : BufTy := match i % 128 with
  | 0 => ⟨S_, .f32⟩
  | 1 => ⟨S256, .f32⟩
  | 2 => ⟨S256, .f32⟩
  | 3 => ⟨S256x223x223, .i32⟩
  | 4 => ⟨S256x223x223, .i32⟩
  | 5 => ⟨S_, .i32⟩
  | 6 => ⟨S256x223x223, .i32⟩
  | 7 => ⟨S256x223x223, .i32⟩
  | 8 => ⟨S256x223x223, .i32⟩
  | 9 => ⟨S256x49729, .i32⟩
  | 10 => ⟨S_, .f32⟩
  | 11 => ⟨S256x65536, .f32⟩
  | 12 => ⟨S_, .i32⟩
  | 13 => ⟨S256x1, .i32⟩
  | 14 => ⟨S256x1, .i1⟩
  | 15 => ⟨S_, .i32⟩
  | 16 => ⟨S256x1, .i32⟩
  | 17 => ⟨S256x1, .i32⟩
  | 18 => ⟨S256x1, .i32⟩
  | 19 => ⟨S_, .i32⟩
  | 20 => ⟨S256x49729, .i32⟩
  | 21 => ⟨S256x49729, .i1⟩
  | 22 => ⟨S_, .i32⟩
  | 23 => ⟨S256x49729, .i32⟩
  | 24 => ⟨S256x49729, .i32⟩
  | 25 => ⟨S256x49729, .i32⟩
  | 26 => ⟨S256x49729, .i32⟩
  | 27 => ⟨S256x49729x1, .i32⟩
  | 28 => ⟨S256x49729x1, .i32⟩
  | 29 => ⟨S256x49729x2, .i32⟩
  | 30 => ⟨S_, .f32⟩
  | 31 => ⟨S256x49729, .f32⟩
  | 32 => ⟨S256x65536, .f32⟩
  | 33 => ⟨S256x256x256, .f32⟩
  | 34 => ⟨S256x256x256, .f32⟩
  | 35 => ⟨S256x256x256, .f32⟩
  | 36 => ⟨S_, .f32⟩
  | 37 => ⟨S256, .f32⟩
  | 38 => ⟨S256x1x1, .f32⟩
  | 39 => ⟨S256x256x256, .f32⟩
  | 40 => ⟨S256x256x256, .f32⟩
  | 41 => ⟨S1x256x256, .f32⟩
  | 42 => ⟨S256x256x256, .f32⟩
  | 43 => ⟨S256x256x256, .f32⟩
  | 44 => ⟨S_, .f32⟩
  | 45 => ⟨S256, .f32⟩
  | 46 => ⟨S256, .f32⟩
  | 47 => ⟨S1x256x256, .f32⟩
  | 48 => ⟨S256x256x256, .f32⟩
  | 49 => ⟨S256x256x256, .f32⟩
  | 50 => ⟨S_, .f32⟩
  | 51 => ⟨S256, .f32⟩
  | 52 => ⟨S256, .f32⟩
  | 53 => ⟨S1x256x256, .f32⟩
  | 54 => ⟨S256x256x256, .f32⟩
  | 55 => ⟨S256x256x256, .f32⟩
  | 56 => ⟨S_, .f32⟩
  | 57 => ⟨S256, .f32⟩
  | 58 => ⟨S256, .f32⟩
  | 59 => ⟨S256x256x256, .f32⟩
  | 60 => ⟨S_, .f32⟩
  | 61 => ⟨S256, .f32⟩
  | 62 => ⟨S256, .f32⟩
  | 63 => ⟨S256x223x224, .i32⟩
  | 64 => ⟨S256x223x224, .i32⟩
  | 65 => ⟨S_, .i32⟩
  | 66 => ⟨S256x223x224, .i32⟩
  | 67 => ⟨S256x223x224, .i32⟩
  | 68 => ⟨S256x223x224, .i32⟩
  | 69 => ⟨S256x49952, .i32⟩
  | 70 => ⟨S_, .f32⟩
  | 71 => ⟨S256x65536, .f32⟩
  | 72 => ⟨S_, .i32⟩
  | 73 => ⟨S256x1, .i32⟩
  | 74 => ⟨S256x1, .i1⟩
  | 75 => ⟨S_, .i32⟩
  | 76 => ⟨S256x1, .i32⟩
  | 77 => ⟨S256x1, .i32⟩
  | 78 => ⟨S256x1, .i32⟩
  | 79 => ⟨S_, .i32⟩
  | 80 => ⟨S256x49952, .i32⟩
  | 81 => ⟨S256x49952, .i1⟩
  | 82 => ⟨S_, .i32⟩
  | 83 => ⟨S256x49952, .i32⟩
  | 84 => ⟨S256x49952, .i32⟩
  | 85 => ⟨S256x49952, .i32⟩
  | 86 => ⟨S256x49952, .i32⟩
  | 87 => ⟨S256x49952x1, .i32⟩
  | 88 => ⟨S256x49952x1, .i32⟩
  | 89 => ⟨S256x49952x2, .i32⟩
  | 90 => ⟨S_, .f32⟩
  | 91 => ⟨S256x49952, .f32⟩
  | 92 => ⟨S256x65536, .f32⟩
  | 93 => ⟨S256x256x256, .f32⟩
  | 94 => ⟨S256x256x256, .f32⟩
  | 95 => ⟨S256x256x256, .f32⟩
  | 96 => ⟨S_, .f32⟩
  | 97 => ⟨S256, .f32⟩
  | 98 => ⟨S256x1x1, .f32⟩
  | 99 => ⟨S256x256x256, .f32⟩
  | 100 => ⟨S256x256x256, .f32⟩
  | 101 => ⟨S1x256x256, .f32⟩
  | 102 => ⟨S256x256x256, .f32⟩
  | 103 => ⟨S256x256x256, .f32⟩
  | 104 => ⟨S_, .f32⟩
  | 105 => ⟨S256, .f32⟩
  | 106 => ⟨S256, .f32⟩
  | 107 => ⟨S1x256x256, .f32⟩
  | 108 => ⟨S256x256x256, .f32⟩
  | 109 => ⟨S256x256x256, .f32⟩
  | 110 => ⟨S_, .f32⟩
  | 111 => ⟨S256, .f32⟩
  | 112 => ⟨S256, .f32⟩
  | 113 => ⟨S1x256x256, .f32⟩
  | 114 => ⟨S256x256x256, .f32⟩
  | 115 => ⟨S256x256x256, .f32⟩
  | 116 => ⟨S_, .f32⟩
  | 117 => ⟨S256, .f32⟩
  | 118 => ⟨S256, .f32⟩
  | 119 => ⟨S256x256x256, .f32⟩
  | 120 => ⟨S_, .f32⟩
  | 121 => ⟨S256, .f32⟩
  | 122 => ⟨S256, .f32⟩
  | 123 => ⟨S256x223x223, .i32⟩
  | 124 => ⟨S256x223x223, .i32⟩
  | 125 => ⟨S_, .i32⟩
  | 126 => ⟨S256x223x223, .i32⟩
  | 127 => ⟨S256x223x223, .i32⟩
  | _ => ⟨S32x3x8x224x224, .f32⟩

abbrev hbmTy0_2 (i : Nat) : BufTy := match i % 128 with
  | 0 => ⟨S256x223x223, .i32⟩
  | 1 => ⟨S256x49729, .i32⟩
  | 2 => ⟨S_, .f32⟩
  | 3 => ⟨S256x65536, .f32⟩
  | 4 => ⟨S_, .i32⟩
  | 5 => ⟨S256x1, .i32⟩
  | 6 => ⟨S256x1, .i1⟩
  | 7 => ⟨S_, .i32⟩
  | 8 => ⟨S256x1, .i32⟩
  | 9 => ⟨S256x1, .i32⟩
  | 10 => ⟨S256x1, .i32⟩
  | 11 => ⟨S_, .i32⟩
  | 12 => ⟨S256x49729, .i32⟩
  | 13 => ⟨S256x49729, .i1⟩
  | 14 => ⟨S_, .i32⟩
  | 15 => ⟨S256x49729, .i32⟩
  | 16 => ⟨S256x49729, .i32⟩
  | 17 => ⟨S256x49729, .i32⟩
  | 18 => ⟨S256x49729, .i32⟩
  | 19 => ⟨S256x49729x1, .i32⟩
  | 20 => ⟨S256x49729x1, .i32⟩
  | 21 => ⟨S256x49729x2, .i32⟩
  | 22 => ⟨S_, .f32⟩
  | 23 => ⟨S256x49729, .f32⟩
  | 24 => ⟨S256x65536, .f32⟩
  | 25 => ⟨S256x256x256, .f32⟩
  | 26 => ⟨S256x256x256, .f32⟩
  | 27 => ⟨S256x256x256, .f32⟩
  | 28 => ⟨S_, .f32⟩
  | 29 => ⟨S256, .f32⟩
  | 30 => ⟨S256x1x1, .f32⟩
  | 31 => ⟨S256x256x256, .f32⟩
  | 32 => ⟨S256x256x256, .f32⟩
  | 33 => ⟨S1x256x256, .f32⟩
  | 34 => ⟨S256x256x256, .f32⟩
  | 35 => ⟨S256x256x256, .f32⟩
  | 36 => ⟨S_, .f32⟩
  | 37 => ⟨S256, .f32⟩
  | 38 => ⟨S256, .f32⟩
  | 39 => ⟨S1x256x256, .f32⟩
  | 40 => ⟨S256x256x256, .f32⟩
  | 41 => ⟨S256x256x256, .f32⟩
  | 42 => ⟨S_, .f32⟩
  | 43 => ⟨S256, .f32⟩
  | 44 => ⟨S256, .f32⟩
  | 45 => ⟨S1x256x256, .f32⟩
  | 46 => ⟨S256x256x256, .f32⟩
  | 47 => ⟨S256x256x256, .f32⟩
  | 48 => ⟨S_, .f32⟩
  | 49 => ⟨S256, .f32⟩
  | 50 => ⟨S256, .f32⟩
  | 51 => ⟨S256x256x256, .f32⟩
  | 52 => ⟨S_, .f32⟩
  | 53 => ⟨S256, .f32⟩
  | 54 => ⟨S256, .f32⟩
  | 55 => ⟨S_, .f32⟩
  | 56 => ⟨S256, .f32⟩
  | 57 => ⟨S256, .f32⟩
  | 58 => ⟨S_, .f32⟩
  | 59 => ⟨S256, .f32⟩
  | 60 => ⟨S256, .f32⟩
  | 61 => ⟨S_, .f32⟩
  | 62 => ⟨S256, .f32⟩
  | 63 => ⟨S256, .f32⟩
  | 64 => ⟨S_, .f32⟩
  | 65 => ⟨S256, .f32⟩
  | 66 => ⟨S256, .f32⟩
  | 67 => ⟨S256, .f32⟩
  | 68 => ⟨S256x1, .f32⟩
  | 69 => ⟨S256x1, .f32⟩
  | 70 => ⟨S256x1, .f32⟩
  | 71 => ⟨S256x1, .f32⟩
  | 72 => ⟨S256x1, .f32⟩
  | 73 => ⟨S256x1, .f32⟩
  | 74 => ⟨S256x6, .f32⟩
  | 75 => ⟨S256x1x6, .f32⟩
  | _ => ⟨S32x3x8x224x224, .f32⟩

abbrev hbmTy (i : Nat) : BufTy := match i / 128 with
  | 0 => hbmTy0_0 i
  | 1 => hbmTy0_1 i
  | 2 => hbmTy0_2 i
  | _ => ⟨S32x3x8x224x224, .f32⟩

abbrev bufTy : (tb : Table) → Fin (tcTables nBuf tb) → BufTy
  | .hbm, ⟨i, _⟩ => hbmTy i
  | _, _ => ⟨S32x3x8x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_cst_0 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_cst_1 : Ref sig .tc := ⟨.hbm, 48, rfl⟩
abbrev main_call1_call0_v8 : Ref sig .tc := ⟨.hbm, 49, rfl⟩
abbrev main_call1_call0_cst_2 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_call0_cst_3 : Ref sig .tc := ⟨.hbm, 54, rfl⟩
abbrev main_call1_call0_v12 : Ref sig .tc := ⟨.hbm, 55, rfl⟩
abbrev main_call1_call0_cst_4 : Ref sig .tc := ⟨.hbm, 56, rfl⟩
abbrev main_call1_call0_call0_v0 : Ref sig .tc := ⟨.hbm, 57, rfl⟩
abbrev main_call1_call0_call0_v1 : Ref sig .tc := ⟨.hbm, 58, rfl⟩
abbrev main_call1_v0 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_7 : Ref sig .tc := ⟨.hbm, 70, rfl⟩
abbrev main_v33 : Ref sig .tc := ⟨.hbm, 71, rfl⟩
abbrev main_c_8 : Ref sig .tc := ⟨.hbm, 72, rfl⟩
abbrev main_v34 : Ref sig .tc := ⟨.hbm, 73, rfl⟩
abbrev main_v35 : Ref sig .tc := ⟨.hbm, 74, rfl⟩
abbrev main_c_9 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_10 : Ref sig .tc := ⟨.hbm, 79, rfl⟩
abbrev main_v39 : Ref sig .tc := ⟨.hbm, 80, rfl⟩
abbrev main_v40 : Ref sig .tc := ⟨.hbm, 81, rfl⟩
abbrev main_c_11 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_12 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_13 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_14 : Ref sig .tc := ⟨.hbm, 104, rfl⟩
abbrev main_v60 : Ref sig .tc := ⟨.hbm, 105, rfl⟩
abbrev main_cst_15 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_16 : Ref sig .tc := ⟨.hbm, 112, rfl⟩
abbrev main_v66 : Ref sig .tc := ⟨.hbm, 113, rfl⟩
abbrev main_cst_17 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_18 : Ref sig .tc := ⟨.hbm, 120, rfl⟩
abbrev main_v72 : Ref sig .tc := ⟨.hbm, 121, rfl⟩
abbrev main_cst_19 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_20 : Ref sig .tc := ⟨.hbm, 126, rfl⟩
abbrev main_v76 : Ref sig .tc := ⟨.hbm, 127, rfl⟩
abbrev main_cst_21 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_22 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_23 : Ref sig .tc := ⟨.hbm, 138, rfl⟩
abbrev main_v85 : Ref sig .tc := ⟨.hbm, 139, rfl⟩
abbrev main_c_24 : Ref sig .tc := ⟨.hbm, 140, rfl⟩
abbrev main_v86 : Ref sig .tc := ⟨.hbm, 141, rfl⟩
abbrev main_v87 : Ref sig .tc := ⟨.hbm, 142, rfl⟩
abbrev main_c_25 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_26 : Ref sig .tc := ⟨.hbm, 147, rfl⟩
abbrev main_v91 : Ref sig .tc := ⟨.hbm, 148, rfl⟩
abbrev main_v92 : Ref sig .tc := ⟨.hbm, 149, rfl⟩
abbrev main_c_27 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_28 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_29 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_30 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_31 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_32 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_33 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_c_34 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_35 : Ref sig .tc := ⟨.hbm, 198, rfl⟩
abbrev main_v133 : Ref sig .tc := ⟨.hbm, 199, rfl⟩
abbrev main_c_36 : Ref sig .tc := ⟨.hbm, 200, rfl⟩
abbrev main_v134 : Ref sig .tc := ⟨.hbm, 201, rfl⟩
abbrev main_v135 : Ref sig .tc := ⟨.hbm, 202, rfl⟩
abbrev main_c_37 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_c_38 : Ref sig .tc := ⟨.hbm, 207, rfl⟩
abbrev main_v139 : Ref sig .tc := ⟨.hbm, 208, rfl⟩
abbrev main_v140 : Ref sig .tc := ⟨.hbm, 209, rfl⟩
abbrev main_c_39 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_40 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_41 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_42 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_cst_43 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_cst_44 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_cst_45 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_c_46 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_cst_47 : Ref sig .tc := ⟨.hbm, 258, rfl⟩
abbrev main_v181 : Ref sig .tc := ⟨.hbm, 259, rfl⟩
abbrev main_c_48 : Ref sig .tc := ⟨.hbm, 260, rfl⟩
abbrev main_v182 : Ref sig .tc := ⟨.hbm, 261, rfl⟩
abbrev main_v183 : Ref sig .tc := ⟨.hbm, 262, rfl⟩
abbrev main_c_49 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_c_50 : Ref sig .tc := ⟨.hbm, 267, rfl⟩
abbrev main_v187 : Ref sig .tc := ⟨.hbm, 268, rfl⟩
abbrev main_v188 : Ref sig .tc := ⟨.hbm, 269, rfl⟩
abbrev main_c_51 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_cst_52 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_cst_53 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_cst_54 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_cst_55 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_cst_56 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_cst_57 : Ref sig .tc := ⟨.hbm, 308, rfl⟩
abbrev main_v221 : Ref sig .tc := ⟨.hbm, 309, rfl⟩
abbrev main_v222 : Ref sig .tc := ⟨.hbm, 310, rfl⟩
abbrev main_cst_58 : Ref sig .tc := ⟨.hbm, 311, rfl⟩
abbrev main_v223 : Ref sig .tc := ⟨.hbm, 312, rfl⟩
abbrev main_v224 : Ref sig .tc := ⟨.hbm, 313, rfl⟩
abbrev main_cst_59 : Ref sig .tc := ⟨.hbm, 314, rfl⟩
abbrev main_v225 : Ref sig .tc := ⟨.hbm, 315, rfl⟩
abbrev main_v226 : Ref sig .tc := ⟨.hbm, 316, rfl⟩
abbrev main_cst_60 : Ref sig .tc := ⟨.hbm, 317, rfl⟩
abbrev main_v227 : Ref sig .tc := ⟨.hbm, 318, rfl⟩
abbrev main_v228 : Ref sig .tc := ⟨.hbm, 319, rfl⟩
abbrev main_cst_61 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩

abbrev nD : Nat := 1
abbrev τ : Topo := Topo.v7x

variable {F : FTy → Type} [FloatOps F]
-- ==== Proof.Model.lean ====
/- What the kernel's body stores, as one function of the blocks it loads: the quantised frame, the four co-occurrence
   histograms as a chain of fourteen matrix products, and the six features. The body does this twice, once for each of the
   two frames of its block; both are the same function. -/
module

public import proofs.«01_k».proof.Proof.Gen.KernelIdeal.Value

@[expose] public section

set_option maxRecDepth 16384

noncomputable section

namespace Cert.KernelIdeal.Model

open Cert.KernelIdeal Cert.KernelIdeal.Gen Idealize.ShloMosaic Idealize.ShloMosaic.TcCoe Idealize.SL.Sem

variable {F : FTy → Type} [FloatOps F] [Named F]

/-- Seventeen rows from row `16 c` on lie inside the padded frame. -/
theorem slices_rows (c : Fin 14) : S225x224.Slices ![16 * c.val, 0] S17x224 := by
  revert c; decide

/-- Row `c` lies inside the frame cut into fourteen rows. -/
theorem slices_row (c : Fin 14) : S14x3584.Slices ![c.val, 0] S1x3584 := by
  revert c; decide

/-- The seventeen rows from row `16 c` on of a padded frame, one-hot along the levels, pixel by pixel. -/
def oneHot (arr : FVec F S225x224 .bf16) (c : Fin 14) : FVec F S3808x256 .fp8e4m3 :=
  shapeCast S3808x256 (truncf .fp8e4m3 (select
    (cmpf .oeq (broadcastTo S17x224x256 (shapeCast S17x224x1
      (extractStridedSlice S17x224 ![16 * c.val, 0] arr (slices_rows c)) shapeCasts_S17x224_S17x224x1)
      broadcasts_S17x224x1_S17x224x256) (k0_pay11 (F := F)))
    (broadcast S17x224x256 (Scalar.ofBits .bf16 0x3F80#16 : F .bf16))
    (broadcast S17x224x256 (Scalar.ofBits .bf16 0x0000#16 : F .bf16))) bitsLt_fp8e4m3_bf16)
    shapeCasts_S17x224x256_S3808x256

/-- Chunk `c` of the frame's own pixels, one-hot with the levels leading. -/
def oneHotT (g14 : FVec F S14x3584 .bf16) (c : Fin 14) : FVec F S256x3584 .fp8e4m3 :=
  truncf .fp8e4m3 (select
    (cmpf .oeq (broadcastTo S256x3584 (extractStridedSlice S1x3584 ![c.val, 0] g14 (slices_row c))
      broadcasts_S1x3584_S256x3584) (k0_pay12 (F := F)))
    (broadcast S256x3584 (Scalar.ofBits .bf16 0x3F80#16 : F .bf16))
    (broadcast S256x3584 (Scalar.ofBits .bf16 0x0000#16 : F .bf16))) bitsLt_fp8e4m3_bf16

/-- One chunk's contribution to a histogram: own pixels against neighbours read from row `off` of the one-hot rows on. -/
def chunk (off : Fin 2) (g14 : FVec F S14x3584 .bf16) (arr : FVec F S225x224 .bf16) (c : Fin 14) : FVec F S256x256 .f32 :=
  matmul dot_S256x3584_S3584x256_S256x256_1_0_0_1_n_n none (oneHotT g14 c)
    (match off with
      | 0 => extractStridedSlice S3584x256 ![0, 0] (oneHot arr c) slices_S3808x256_o0_0_S3584x256
      | 1 => extractStridedSlice S3584x256 ![224, 0] (oneHot arr c) slices_S3808x256_o224_0_S3584x256)
    (constant S256x256 .f32 0x00000000#32)

/-- The first `n` chunks added up in order, from zero. -/
def hist (off : Fin 2) (g14 : FVec F S14x3584 .bf16) (arr : FVec F S225x224 .bf16) : (n : Nat) → n ≤ 14 → FVec F S256x256 .f32
  | 0, _ => broadcast S256x256 (Scalar.ofBits .f32 0x00000000#32 : F .f32)
  | n + 1, h => addf (hist off g14 arr n (Nat.le_of_succ_le h)) (chunk off g14 arr ⟨n, h⟩)

variable (a : Vec F S1x3x1x224x224 .f32) (b : Vec F S1x3x1x14x3584 .f32)

/-- The histogram of offset (0, 1). -/
def h1 : FVec F S256x256 .f32 := hist 0 (k0_pay2 b) (k0_pay9 (k0_pay3 a)) 14 (Nat.le_refl 14)
/-- The histogram of offset (1, 1). -/
def h2 : FVec F S256x256 .f32 := hist 1 (k0_pay2 b) (k0_pay9 (k0_pay3 a)) 14 (Nat.le_refl 14)
/-- The histogram of offset (1, 0). -/
def h3 : FVec F S256x256 .f32 := hist 1 (k0_pay2 b) (k0_pay8 (k0_pay3 a)) 14 (Nat.le_refl 14)
/-- The histogram of offset (1, -1). -/
def h4 : FVec F S256x256 .f32 := hist 1 (k0_pay2 b) (k0_pay10 (k0_pay3 a)) 14 (Nat.le_refl 14)

/-- The difference of the two levels of a histogram's cell. -/
def dlev : FVec F S256x256 .f32 :=
  sitofp .f32 (subi (iota .tc S256x256 32 [0] iota_S256x256_d0_w32) (iota .tc S256x256 32 [1] iota_S256x256_d1_w32))
/-- The contrast's weights. -/
def wcon : FVec F S256x256 .f32 := mulf dlev dlev
/-- The dissimilarity's weights. -/
def wdis : FVec F S256x256 .f32 := absf dlev
/-- The homogeneity's weights. -/
def whom : FVec F S256x256 .f32 :=
  divf (broadcast S256x256 (Scalar.ofBits .f32 0x3F800000#32 : F .f32))
    (addf (broadcast S256x256 (Scalar.ofBits .f32 0x3F800000#32 : F .f32)) wcon)

/-- The four histograms, each divided by its number of pairs, added up. -/
def htot : FVec F S256x256 .f32 :=
  addf (divf (addf (h1 a b) (h3 a b)) (broadcast S256x256 (Scalar.ofBits .f32 0x47432000#32 : F .f32)))
    (divf (addf (h2 a b) (h4 a b)) (broadcast S256x256 (Scalar.ofBits .f32 0x47424100#32 : F .f32)))

/-- A weighted sum of the total histogram, over four. -/
def weighted (w : FVec F S256x256 .f32) : F .f32 :=
  Scalar.divf (extractAt ![0, 0, 0] (shapeCast S1x1x1 (multiReduction .add [1, 2] S1
    (shapeCast S1x256x256 (mulf (htot a b) w) shapeCasts_S256x256_S1x256x256) 0x00000000#32 reduces_S1x256x256_S1 (.inl rfl) rfl)
    shapeCasts_S1_S1x1x1) inpos_S1x1x1_p0_0_0) (Scalar.ofBits .f32 0x40800000#32 : F .f32)

/-- The six features of a frame, in the order they are stored. -/
def feat (a : Vec F S1x3x1x224x224 .f32) (b : Vec F S1x3x1x14x3584 .f32) : Fin 6 → F .f32
  | 0 => k0_pay5 (k0_pay1 a) (k0_pay4 a)
  | 1 => weighted a b wcon
  | 2 => weighted a b wdis
  | 3 => weighted a b whom
  | 4 => k0_pay143 (h1 a b) (h2 a b) (h3 a b) (h4 a b)
  | 5 => k0_pay144 (h1 a b) (h2 a b) (h3 a b) (h4 a b)

end Cert.KernelIdeal.Model

end
-- ==== Proof.Level.lean ====
/- A pixel's grey level, a natural number below 256, and the co-occurrence counts of a frame of levels: what both programs
   compute, in plain numbers. -/
module

public import Idealize.ShloMosaic.Lib.Pointwise

@[expose] public section

noncomputable section

namespace Cert.Glcm

open Idealize.ShloMosaic

/-- The sum of a pixel's channels, averaged, scaled to 0 … 255, floored and clipped. -/
def quant (s : EReal) : EReal :=
  min (Ideal.ofBits .f32 0x437F0000#32) (max 0 (Ideal.liftRound Int.floor
    (Ideal.div s (Ideal.ofBits .f32 0x40400000#32) * Ideal.ofBits .f32 0x437F0000#32)))

/-- The literal 255. -/
theorem ofBits_255 : Ideal.ofBits .f32 0x437F0000#32 = ((255 : ℝ) : EReal) := by
  simp [Ideal.ofBits, Ideal.ieee, -EReal.coe_mul]; norm_num

/-- A floored and clipped number is a natural number at most 255. -/
theorem clip_eq (z : EReal) : ∃ n : ℕ, n ≤ 255 ∧ min ((255 : ℝ) : EReal) (max 0 (Ideal.liftRound Int.floor z)) = ((n : ℝ) : EReal) := by
  induction z with
  | bot => exact ⟨0, by omega, by rw [Ideal.liftRound_bot]; simp⟩
  | top => exact ⟨255, le_refl _, by rw [Ideal.liftRound_top]; simp⟩
  | coe r =>
    refine ⟨(min 255 (max 0 ⌊r⌋)).toNat, by omega, ?_⟩
    show min ((255 : ℝ) : EReal) (max ((0 : ℝ) : EReal) (((⌊r⌋ : ℝ)) : EReal)) = _
    rw [← EReal.coe_strictMono.monotone.map_max, ← EReal.coe_strictMono.monotone.map_min, EReal.coe_eq_coe_iff]
    have h : (((min 255 (max 0 ⌊r⌋)).toNat : ℤ) : ℝ) = ((min 255 (max 0 ⌊r⌋) : ℤ) : ℝ) := by
      rw [Int.toNat_of_nonneg (by omega)]
    rw [Int.cast_natCast] at h
    rw [h]; push_cast; rfl

/-- A quantised value is a whole number from 0 to 255. -/
theorem quant_exists (s : EReal) : ∃ n : ℕ, n ≤ 255 ∧ quant s = ((n : ℝ) : EReal) := by
  unfold quant; rw [ofBits_255]; exact clip_eq _

/-- The grey level of a pixel, from the sum of its channels. -/
def level (s : EReal) : ℕ := (quant_exists s).choose

/-- A level is below 256. -/
theorem level_lt (s : EReal) : level s < 256 := Nat.lt_succ_of_le (quant_exists s).choose_spec.1

/-- The quantised value is the level. -/
theorem quant_eq (s : EReal) : quant s = ((level s : ℝ) : EReal) := (quant_exists s).choose_spec.2

/-- A level converted to a word is that word. -/
theorem fptosi_nat (n : ℕ) (h : n < 256) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  have : max (-((2 ^ (32 - 1) : Nat) : Int)) (min (((2 ^ (32 - 1) : Nat) : Int) - 1) (n : Int)) = (n : Int) := by
    norm_num; omega
  rw [this]; exact BitVec.ofInt_natCast 32 n

/-- The frame of levels of a frame of sums, as a function of any two numbers: zero outside the frame. -/
def img (g : Fin 224 → Fin 224 → EReal) (r w : ℕ) : ℕ :=
  if h : r < 224 ∧ w < 224 then level (g ⟨r, h.1⟩ ⟨w, h.2⟩) else 0

/-- Every level of a frame is below 256. -/
theorem img_lt (g : Fin 224 → Fin 224 → EReal) (r w : ℕ) : img g r w < 256 := by
  unfold img; split
  · exact level_lt _
  · omega

/-- Inside the frame the level is that of the pixel. -/
theorem img_at (g : Fin 224 → Fin 224 → EReal) (r w : ℕ) (hr : r < 224) (hw : w < 224) : img g r w = level (g ⟨r, hr⟩ ⟨w, hw⟩) := by
  unfold img; rw [dif_pos ⟨hr, hw⟩]

/-- How many pixels of a window of `H` rows and `W` columns have level `i` at column shift `ac` and level `j` at shift
    `(dr, bc)`. -/
def cnt (q : ℕ → ℕ → ℕ) (H W dr ac bc i j : ℕ) : ℕ :=
  ∑ r ∈ Finset.range H, ∑ w ∈ Finset.range W, if q r (w + ac) = i ∧ q (r + dr) (w + bc) = j then 1 else 0

/-- All the counts together are the number of pixels of the window. -/
theorem sum_cnt (q : ℕ → ℕ → ℕ) (hq : ∀ r w, q r w < 256) (H W dr ac bc : ℕ) :
    ∑ i : Fin 256, ∑ j : Fin 256, cnt q H W dr ac bc i j = H * W := by
  unfold cnt
  have h1 : ∀ i : Fin 256, ∑ j : Fin 256, ∑ r ∈ Finset.range H, ∑ w ∈ Finset.range W,
      (if q r (w + ac) = i ∧ q (r + dr) (w + bc) = j then 1 else 0)
      = ∑ r ∈ Finset.range H, ∑ w ∈ Finset.range W, (if q r (w + ac) = i then 1 else 0) := fun i => by
    rw [Finset.sum_comm]
    refine Finset.sum_congr rfl fun r _ => ?_
    rw [Finset.sum_comm]
    refine Finset.sum_congr rfl fun w _ => ?_
    rw [Finset.sum_eq_single (⟨q (r + dr) (w + bc), hq _ _⟩ : Fin 256)]
    · simp
    · intro b _ hb
      rw [if_neg]; rintro ⟨_, h⟩; exact hb (Fin.ext h.symm)
    · intro h; exact absurd (Finset.mem_univ _) h
  rw [Finset.sum_congr rfl fun i _ => h1 i, Finset.sum_comm]
  have h2 : ∀ r ∈ Finset.range H, ∑ i : Fin 256, ∑ w ∈ Finset.range W, (if q r (w + ac) = i then 1 else 0) = W := fun r _ => by
    rw [Finset.sum_comm]
    rw [Finset.sum_congr rfl (g := fun _ => 1)]
    · simp
    · intro w _
      rw [Finset.sum_eq_single (⟨q r (w + ac), hq _ _⟩ : Fin 256)]
      · simp
      · intro b _ hb
        rw [if_neg]; intro h; exact hb (Fin.ext h.symm)
      · intro h; exact absurd (Finset.mem_univ _) h
  rw [Finset.sum_congr rfl h2]; simp

/-- A sum over `a * b` positions is the sum over `a` rows of `b` positions each. -/
theorem sum_rows (a b : ℕ) (f : ℕ → ℕ) :
    ∑ k ∈ Finset.range (a * b), f k = ∑ r ∈ Finset.range a, ∑ w ∈ Finset.range b, f (r * b + w) := by
  induction a with
  | zero => simp
  | succ n ih => rw [Nat.succ_mul, Finset.sum_range_add, ih, Finset.sum_range_succ]

/-- The same with the position's row and column in the summand. -/
theorem sum_divmod (a b : ℕ) (f : ℕ → ℕ → ℕ) :
    ∑ k ∈ Finset.range (a * b), f (k / b) (k % b) = ∑ r ∈ Finset.range a, ∑ w ∈ Finset.range b, f r w := by
  rw [sum_rows a b fun k => f (k / b) (k % b)]
  refine Finset.sum_congr rfl fun r _ => Finset.sum_congr rfl fun w hw => ?_
  have hw := Finset.mem_range.1 hw
  show f ((r * b + w) / b) ((r * b + w) % b) = f r w
  rw [Nat.mul_comm r b, Nat.mul_add_div (by omega), Nat.div_eq_of_lt hw, Nat.add_zero, Nat.mul_add_mod, Nat.mod_eq_of_lt hw]

/-- The coercion of naturals to extended reals takes sums to sums. -/
theorem coe_sum {ι : Type} (s : Finset ι) (f : ι → ℝ) : ∑ k ∈ s, ((f k : ℝ) : EReal) = ((∑ k ∈ s, f k : ℝ) : EReal) :=
  (map_sum (⟨⟨Real.toEReal, rfl⟩, fun x y => EReal.coe_add x y⟩ : ℝ →+ EReal) f s).symm

end Cert.Glcm

end
-- ==== Proof.KernelHist.lean ====
/- The kernel's quantised frame and its four histograms at the extended reals: each histogram's element is the count of
   pixel pairs with those two levels. -/
module

public import proofs.«01_k».proof.Proof.Model
public import proofs.«01_k».proof.Proof.Level

@[expose] public section

set_option maxRecDepth 16384

noncomputable section

namespace Cert.KernelIdeal.Hist

open Cert.KernelIdeal Cert.KernelIdeal.Gen Cert.KernelIdeal.Model Cert.Glcm Idealize.ShloMosaic Idealize.ShloMosaic.TcCoe Idealize.SL.Sem

/-- The sum of a pixel's channels in a frame. -/
def chan (a : Vec Ideal S1x3x1x224x224 .f32) (r w : Fin 224) : EReal :=
  (show EReal from a (ix5 0 0 0 r w)) + (show EReal from a (ix5 0 1 0 r w)) + (show EReal from a (ix5 0 2 0 r w))

/-- The sum of a pixel's channels in a frame cut into fourteen rows. -/
def chan14 (b : Vec Ideal S1x3x1x14x3584 .f32) (c : Fin 14) (k : Fin 3584) : EReal :=
  (show EReal from b (ix5 0 0 0 c k)) + (show EReal from b (ix5 0 1 0 c k)) + (show EReal from b (ix5 0 2 0 c k))

/-- The quantised frame. -/
theorem pay1_at (a : Vec Ideal S1x3x1x224x224 .f32) (r w : Fin 224) :
    k0_pay1 a (ix2 r w) = ((level (chan a r w) : ℝ) : EReal) := by
  rw [← quant_eq]; unfold quant chan
  pointwise [k0_pay1]

/-- The quantised frame, cut. -/
theorem pay2_at (b : Vec Ideal S1x3x1x14x3584 .f32) (c : Fin 14) (k : Fin 3584) :
    k0_pay2 b (ix2 c k) = ((level (chan14 b c k) : ℝ) : EReal) := by
  rw [← quant_eq]; unfold quant chan14
  pointwise [k0_pay2]

/-- The quantised frame narrowed has the same values. -/
theorem pay3_at (a : Vec Ideal S1x3x1x224x224 .f32) (r w : Fin 224) :
    k0_pay3 a (ix2 r w) = ((level (chan a r w) : ℝ) : EReal) := by
  pointwise [k0_pay3]; exact pay1_at a r w

/-- The literal −1. -/
theorem ofBits_neg1 : Ideal.ofBits .bf16 0xBF80#16 = (((-1 : ℤ) : ℝ) : EReal) := by
  simp [Ideal.ofBits, Ideal.ieee, -EReal.coe_mul]; norm_num

/-- A small index converted to a float is its number. -/
theorem sitofp_idx (φ : FTy) (i : Fin 256) : FloatOps.sitofp (F := Ideal) φ (BitVec.ofNat 32 i.val) = (((i.val : ℤ) : ℝ) : EReal) := by
  show (((BitVec.ofNat 32 i.val).toInt : ℝ) : EReal) = _
  rw [BitVec.toInt_ofNat', Int.bmod_eq_of_le] <;> omega

/-- One one-hot entry. -/
theorem oneHot_entry (φ : FTy) (x : EReal) (z : ℤ) (hx : x = ((z : ℝ) : EReal)) (i : Fin 256) :
    (if x = FloatOps.sitofp (F := Ideal) φ (BitVec.ofNat 32 i.val) then (1 : EReal) else 0)
      = (((if z = (i.val : ℤ) then 1 else 0 : ℕ) : ℝ) : EReal) := by
  rw [hx, sitofp_idx]
  by_cases h : z = (i.val : ℤ)
  · rw [if_pos h, h, if_pos rfl]; norm_num
  · rw [if_neg h, if_neg]
    · norm_num
    · rw [EReal.coe_eq_coe_iff]; exact_mod_cast h

/-- The product of two one-hot entries is one exactly when both levels match. -/
theorem entry_mul (p q : Prop) [Decidable p] [Decidable q] :
    (((if p then 1 else 0 : ℕ) : ℝ) : EReal) * (((if q then 1 else 0 : ℕ) : ℝ) : EReal) = (((if p ∧ q then 1 else 0 : ℕ) : ℝ) : EReal) := by
  by_cases hp : p <;> by_cases hq : q <;> simp [hp, hq]

/-- What one position of a chunk contributes to a cell. -/
def hit (q : ℕ → ℕ → ℕ) (pd : ℕ → ℕ → ℤ) (off i j r w : ℕ) : ℕ :=
  if (q r w : ℤ) = (i : ℤ) ∧ pd (r + off) w = (j : ℤ) then 1 else 0

/-- A padded position hits nothing. -/
theorem hit_pad (q : ℕ → ℕ → ℕ) (pd : ℕ → ℕ → ℤ) (off i j r w : ℕ) (h : pd (r + off) w = -1) : hit q pd off i j r w = 0 := by
  unfold hit; rw [if_neg]; rintro ⟨_, h2⟩; omega

/-- A position hits when the two levels match. -/
theorem hit_in (q : ℕ → ℕ → ℕ) (pd : ℕ → ℕ → ℤ) (off i j r w n : ℕ) (h : pd (r + off) w = (n : ℤ)) :
    hit q pd off i j r w = if q r w = i ∧ n = j then 1 else 0 := by
  unfold hit; rw [h]; simp only [Int.natCast_inj]

section
variable (g14 : FVec Ideal S14x3584 .bf16) (arr : FVec Ideal S225x224 .bf16) (q : ℕ → ℕ → ℕ) (pd : ℕ → ℕ → ℤ)
  (hg : ∀ (c : Fin 14) (k : Fin 3584), g14 (ix2 c k) = ((q (16 * c.val + k.val / 224) (k.val % 224) : ℝ) : EReal))
  (harr : ∀ (r : Fin 225) (w : Fin 224), arr (ix2 r w) = ((pd r.val w.val : ℝ) : EReal))
include hg harr

omit hg in
/-- A pixel row of the one-hot matrix is one exactly at the pixel's level. -/
theorem oneHot_at (c : Fin 14) (x : Fin 3808) (j : Fin 256) :
    oneHot arr c (ix2 x j) = (((if pd (16 * c.val + x.val / 224) (x.val % 224) = (j.val : ℤ) then 1 else 0 : ℕ) : ℝ) : EReal) := by
  pointwise [oneHot, k0_pay11]
  exact oneHot_entry _ _ _ (harr _ _) j

omit harr in
/-- The transposed one-hot matrix is one exactly at the pixel's level. -/
theorem oneHotT_at (c : Fin 14) (i : Fin 256) (k : Fin 3584) :
    oneHotT g14 c (ix2 i k) = (((if (q (16 * c.val + k.val / 224) (k.val % 224) : ℤ) = (i.val : ℤ) then 1 else 0 : ℕ) : ℝ) : EReal) := by
  pointwise [oneHotT, k0_pay12]
  exact oneHot_entry _ _ _ ((hg c k).trans (by norm_num)) i

/-- A chunk's element is the number of its positions that hit the cell. -/
theorem chunk_at (off : Fin 2) (c : Fin 14) (i j : Fin 256) :
    chunk off g14 arr c (ix2 i j)
      = (((∑ k ∈ Finset.range 3584, hit q pd off.val i.val j.val (16 * c.val + k / 224) (k % 224) : ℕ) : ℝ) : EReal) := by
  have key : ∀ nb : FVec Ideal S3584x256 .fp8e4m3,
      (∀ k : Fin 3584, nb (ix2 k j) = (((if pd (16 * c.val + k.val / 224 + off.val) (k.val % 224) = (j.val : ℤ) then 1 else 0 : ℕ) : ℝ) : EReal)) →
      matmul dot_S256x3584_S3584x256_S256x256_1_0_0_1_n_n none (oneHotT g14 c) nb (constant S256x256 .f32 0x00000000#32) (ix2 i j)
        = (((∑ k ∈ Finset.range 3584, hit q pd off.val i.val j.val (16 * c.val + k / 224) (k % 224) : ℕ) : ℝ) : EReal) := by
    intro nb hnb
    pointwise
    rw [Finset.sum_range, Nat.cast_sum, ← coe_sum]
    refine Finset.sum_congr rfl fun k _ => ?_
    rw [hnb k, oneHotT_at g14 q hg c i k]
    exact entry_mul _ _
  match off with
  | 0 =>
    refine key _ fun k => ?_
    pointwise
    rw [oneHot_at arr pd harr]
  | 1 =>
    refine key _ fun k => ?_
    pointwise
    rw [oneHot_at arr pd harr]
    have e1 : 16 * c.val + (224 + k.val) / 224 = 16 * c.val + k.val / 224 + 1 := by omega
    have e2 : (224 + k.val) % 224 = k.val % 224 := by omega
    simp only [e1, e2, Fin.val_one]

/-- The first chunks' sum counts their hits. -/
theorem hist_at (off : Fin 2) (i j : Fin 256) : ∀ (n : ℕ) (h : n ≤ 14),
    hist off g14 arr n h (ix2 i j)
      = (((∑ c ∈ Finset.range n, ∑ k ∈ Finset.range 3584, hit q pd off.val i.val j.val (16 * c + k / 224) (k % 224) : ℕ) : ℝ) : EReal)
  | 0, _ => by
    show Ideal.ofBits .f32 0x00000000#32 = _
    simp
  | n + 1, h => by
    show (hist off g14 arr n _ (ix2 i j) : EReal) + chunk off g14 arr ⟨n, h⟩ (ix2 i j) = _
    rw [hist_at off i j n, chunk_at g14 arr q pd hg harr off ⟨n, h⟩ i j, Finset.sum_range_succ _ n, Nat.cast_add, EReal.coe_add]

/-- A whole histogram's element counts the hits over the frame. -/
theorem hist_full (off : Fin 2) (i j : Fin 256) :
    hist off g14 arr 14 (Nat.le_refl 14) (ix2 i j)
      = (((∑ r ∈ Finset.range 224, ∑ w ∈ Finset.range 224, hit q pd off.val i.val j.val r w : ℕ) : ℝ) : EReal) := by
  rw [hist_at g14 arr q pd hg harr off i j 14]
  refine congrArg (fun n : ℕ => ((n : ℝ) : EReal)) ?_
  refine Eq.trans ?_ (sum_rows 14 16 fun r => ∑ w ∈ Finset.range 224, hit q pd off.val i.val j.val r w).symm
  refine Finset.sum_congr rfl fun c _ => ?_
  rw [Nat.mul_comm c 16]
  exact sum_divmod 16 224 fun r w => hit q pd off.val i.val j.val (16 * c + r) w
end

section
variable (a : Vec Ideal S1x3x1x224x224 .f32) (b : Vec Ideal S1x3x1x14x3584 .f32) (q : ℕ → ℕ → ℕ)
  (ha : ∀ r w : Fin 224, level (chan a r w) = q r.val w.val)
  (hb : ∀ (c : Fin 14) (k : Fin 3584), level (chan14 b c k) = q (16 * c.val + k.val / 224) (k.val % 224))
include ha hb

/-- The padded frame moved left by one column. -/
def padL (q : ℕ → ℕ → ℕ) (r w : ℕ) : ℤ := if r < 224 then if w < 223 then (q r (w + 1) : ℤ) else -1 else -1
/-- The padded frame. -/
def padC (q : ℕ → ℕ → ℕ) (r w : ℕ) : ℤ := if r < 224 then (q r w : ℤ) else -1
/-- The padded frame moved right by one column. -/
def padR (q : ℕ → ℕ → ℕ) (r w : ℕ) : ℤ := if r < 224 then if w < 1 then -1 else (q r (w - 1) : ℤ) else -1

omit ha in
/-- The frame cut into fourteen rows holds the levels. -/
theorem g14_at (c : Fin 14) (k : Fin 3584) : k0_pay2 b (ix2 c k) = ((q (16 * c.val + k.val / 224) (k.val % 224) : ℝ) : EReal) := by
  rw [pay2_at, hb]

omit hb in
/-- The frame holds the levels. -/
theorem g_at (r w : Fin 224) : k0_pay3 a (ix2 r w) = (((q r.val w.val : ℤ) : ℝ) : EReal) := by
  rw [pay3_at, ha, Int.cast_natCast]

omit hb in
/-- The frame shifted left, with its padding. -/
theorem padL_at (r : Fin 225) (w : Fin 224) : k0_pay9 (k0_pay3 a) (ix2 r w) = ((padL q r.val w.val : ℝ) : EReal) := by
  pointwise [k0_pay9, k0_pay6, k0_pay7]
  unfold padL
  by_cases hr : r.val < 224
  · by_cases hw : w.val < 223
    · rw [dif_pos hr, dif_pos hw, if_pos hr, if_pos hw, g_at a q ha]
      show (((q r.val (1 + w.val) : ℤ) : ℝ) : EReal) = _
      rw [Nat.add_comm]
    · rw [dif_pos hr, dif_neg hw, if_pos hr, if_neg hw]; exact ofBits_neg1
  · rw [dif_neg hr, if_neg hr]; exact ofBits_neg1

omit hb in
/-- The frame with a padding row below. -/
theorem padC_at (r : Fin 225) (w : Fin 224) : k0_pay8 (k0_pay3 a) (ix2 r w) = ((padC q r.val w.val : ℝ) : EReal) := by
  pointwise [k0_pay8, k0_pay6, k0_pay7]
  unfold padC
  by_cases hr : r.val < 224
  · rw [dif_pos hr, if_pos hr, g_at a q ha]
  · rw [dif_neg hr, if_neg hr]; exact ofBits_neg1

omit hb in
/-- The frame shifted right, with its padding. -/
theorem padR_at (r : Fin 225) (w : Fin 224) : k0_pay10 (k0_pay3 a) (ix2 r w) = ((padR q r.val w.val : ℝ) : EReal) := by
  pointwise [k0_pay10, k0_pay6, k0_pay7]
  unfold padR
  by_cases hr : r.val < 224
  · by_cases hw : w.val < 1
    · rw [dif_pos hr, dif_pos hw, if_pos hr, if_pos hw]; exact ofBits_neg1
    · rw [dif_pos hr, dif_neg hw, if_pos hr, if_neg hw, g_at a q ha]
  · rw [dif_neg hr, if_neg hr]; exact ofBits_neg1

/-- Offset (0, 1). -/
theorem h1_at (i j : Fin 256) : h1 a b (ix2 i j) = ((cnt q 224 223 0 0 1 i.val j.val : ℝ) : EReal) := by
  unfold h1
  rw [hist_full _ _ q (padL q) (g14_at b q hb) (padL_at a q ha) 0 i j]
  refine congrArg (fun n : ℕ => ((n : ℝ) : EReal)) ?_
  unfold cnt
  refine Finset.sum_congr rfl fun r hr => ?_
  have hr := Finset.mem_range.1 hr
  rw [Finset.sum_range_succ _ 223, hit_pad _ _ _ _ _ _ _ (by simp [padL]), Nat.add_zero]
  refine Finset.sum_congr rfl fun w hw => ?_
  have hw := Finset.mem_range.1 hw
  exact hit_in q _ _ _ _ _ _ (q r (w + 1)) (by unfold padL; rw [if_pos (by simpa using hr), if_pos hw]; rfl)

/-- Offset (1, 1). -/
theorem h2_at (i j : Fin 256) : h2 a b (ix2 i j) = ((cnt q 223 223 1 0 1 i.val j.val : ℝ) : EReal) := by
  unfold h2
  rw [hist_full _ _ q (padL q) (g14_at b q hb) (padL_at a q ha) 1 i j]
  refine congrArg (fun n : ℕ => ((n : ℝ) : EReal)) ?_
  unfold cnt
  rw [Finset.sum_range_succ _ 223, Finset.sum_eq_zero (s := Finset.range 224) fun w _ => hit_pad _ _ _ _ _ _ _ (by simp [padL]), Nat.add_zero]
  refine Finset.sum_congr rfl fun r hr => ?_
  have hr := Finset.mem_range.1 hr
  rw [Finset.sum_range_succ _ 223, hit_pad _ _ _ _ _ _ _ (by simp [padL]), Nat.add_zero]
  refine Finset.sum_congr rfl fun w hw => ?_
  have hw := Finset.mem_range.1 hw
  exact hit_in q _ _ _ _ _ _ (q (r + 1) (w + 1)) (by unfold padL; rw [if_pos (by show r + 1 < 224; omega), if_pos hw]; rfl)

/-- Offset (1, 0). -/
theorem h3_at (i j : Fin 256) : h3 a b (ix2 i j) = ((cnt q 223 224 1 0 0 i.val j.val : ℝ) : EReal) := by
  unfold h3
  rw [hist_full _ _ q (padC q) (g14_at b q hb) (padC_at a q ha) 1 i j]
  refine congrArg (fun n : ℕ => ((n : ℝ) : EReal)) ?_
  unfold cnt
  rw [Finset.sum_range_succ _ 223, Finset.sum_eq_zero (s := Finset.range 224) fun w _ => hit_pad _ _ _ _ _ _ _ (by simp [padC]), Nat.add_zero]
  refine Finset.sum_congr rfl fun r hr => ?_
  have hr := Finset.mem_range.1 hr
  refine Finset.sum_congr rfl fun w hw => ?_
  exact hit_in q _ _ _ _ _ _ (q (r + 1) w) (by unfold padC; rw [if_pos (by show r + 1 < 224; omega)]; rfl)

/-- Offset (1, −1). -/
theorem h4_at (i j : Fin 256) : h4 a b (ix2 i j) = ((cnt q 223 223 1 1 0 i.val j.val : ℝ) : EReal) := by
  unfold h4
  rw [hist_full _ _ q (padR q) (g14_at b q hb) (padR_at a q ha) 1 i j]
  refine congrArg (fun n : ℕ => ((n : ℝ) : EReal)) ?_
  unfold cnt
  rw [Finset.sum_range_succ _ 223, Finset.sum_eq_zero (s := Finset.range 224) fun w _ => hit_pad _ _ _ _ _ _ _ (by simp [padR]), Nat.add_zero]
  refine Finset.sum_congr rfl fun r hr => ?_
  have hr := Finset.mem_range.1 hr
  rw [Finset.sum_range_succ' _ 223, hit_pad _ _ _ _ _ _ _ (by simp [padR]), Nat.add_zero]
  refine Finset.sum_congr rfl fun w hw => ?_
  exact hit_in q _ _ _ _ _ _ (q (r + 1) w) (by unfold padR; rw [if_pos (by show r + 1 < 224; omega), if_neg (by omega)]; rfl)

end

end Cert.KernelIdeal.Hist

end
-- ==== Proof.Weights.lean ====
/- The features' arithmetic in real numbers: the weights of a pair of levels, and the two ways of weighting and squaring
   the four histograms. -/
module

public import proofs.«01_k».proof.Proof.Level

@[expose] public section

set_option maxRecDepth 16384

noncomputable section

namespace Cert.Glcm

open Idealize.ShloMosaic

/-- The difference of two levels. -/
def diff (x y : Fin 256) : ℝ := (x.val : ℝ) - (y.val : ℝ)

/-- The contrast weight. -/
def wCon (x y : Fin 256) : ℝ := diff x y * diff x y
/-- The dissimilarity weight. -/
def wDis (x y : Fin 256) : ℝ := |diff x y|
/-- The homogeneity weight. -/
def wHom (x y : Fin 256) : ℝ := 1 / (1 + wCon x y)

/-- The contrast weight is symmetric. -/
theorem wCon_symm (x y : Fin 256) : wCon x y = wCon y x := by unfold wCon diff; ring
/-- The dissimilarity weight is symmetric. -/
theorem wDis_symm (x y : Fin 256) : wDis x y = wDis y x := abs_sub_comm _ _
/-- The homogeneity weight is symmetric. -/
theorem wHom_symm (x y : Fin 256) : wHom x y = wHom y x := by unfold wHom; rw [wCon_symm]

/-- The word of a difference of two levels, read signed. -/
theorem toInt_sub (x y : Fin 256) : (BitVec.ofNat 32 x.val - BitVec.ofNat 32 y.val).toInt = (x.val : ℤ) - (y.val : ℤ) := by
  have h1 : (BitVec.ofNat 32 x.val).toInt = (x.val : ℤ) := by rw [BitVec.toInt_ofNat', Int.bmod_eq_of_le] <;> omega
  have h2 : (BitVec.ofNat 32 y.val).toInt = (y.val : ℤ) := by rw [BitVec.toInt_ofNat', Int.bmod_eq_of_le] <;> omega
  rw [BitVec.toInt_sub, h1, h2, Int.bmod_eq_of_le] <;> omega

/-- That difference as a float. -/
theorem sub_word (x y : Fin 256) :
    FloatOps.sitofp (F := Ideal) .f32 (IntOp.subi (BitVec.ofNat 32 x.val) (BitVec.ofNat 32 y.val)) = ((diff x y : ℝ) : EReal) := by
  show (((BitVec.ofNat 32 x.val - BitVec.ofNat 32 y.val).toInt : ℝ) : EReal) = _
  rw [toInt_sub]; unfold diff; push_cast; rfl

/-- Its square. -/
theorem sq_word (x y : Fin 256) :
    FloatOps.sitofp (F := Ideal) .f32 (IntOp.muli (IntOp.subi (BitVec.ofNat 32 x.val) (BitVec.ofNat 32 y.val))
      (IntOp.subi (BitVec.ofNat 32 x.val) (BitVec.ofNat 32 y.val))) = ((wCon x y : ℝ) : EReal) := by
  show ((((BitVec.ofNat 32 x.val - BitVec.ofNat 32 y.val) * (BitVec.ofNat 32 x.val - BitVec.ofNat 32 y.val)).toInt : ℝ) : EReal) = _
  have hx := x.isLt
  have hy := y.isLt
  rw [BitVec.toInt_mul, toInt_sub, Int.bmod_eq_of_le]
  · unfold wCon diff; push_cast; rfl
  · norm_num; nlinarith [mul_self_nonneg ((x.val : ℤ) - (y.val : ℤ))]
  · norm_num
    have h1 : (x.val : ℤ) - (y.val : ℤ) ≤ 255 := by omega
    have h2 : -255 ≤ (x.val : ℤ) - (y.val : ℤ) := by omega
    nlinarith

/-- Its absolute value. -/
theorem abs_word (x y : Fin 256) :
    FloatOps.sitofp (F := Ideal) .f32 (IntOp.absi (IntOp.subi (BitVec.ofNat 32 x.val) (BitVec.ofNat 32 y.val))) = ((wDis x y : ℝ) : EReal) := by
  show ((((if (BitVec.ofNat 32 x.val - BitVec.ofNat 32 y.val).msb then -(BitVec.ofNat 32 x.val - BitVec.ofNat 32 y.val)
    else BitVec.ofNat 32 x.val - BitVec.ofNat 32 y.val)).toInt : ℝ) : EReal) = _
  have hs := toInt_sub x y
  have hx := x.isLt
  have hy := y.isLt
  have hm : (BitVec.ofNat 32 x.val - BitVec.ofNat 32 y.val).msb = decide ((x.val : ℤ) - (y.val : ℤ) < 0) := by
    rw [BitVec.msb_eq_toInt, hs]
  rw [hm]
  unfold wDis diff
  by_cases h : (x.val : ℤ) - (y.val : ℤ) < 0
  · rw [if_pos (by simpa using h), BitVec.toInt_neg, hs, Int.bmod_eq_of_le (by omega) (by omega)]
    have hr : (x.val : ℝ) - (y.val : ℝ) ≤ 0 := by exact_mod_cast h.le
    rw [abs_of_nonpos hr]; push_cast; rfl
  · rw [if_neg (by simpa using h), hs]
    have hr : 0 ≤ (x.val : ℝ) - (y.val : ℝ) := by exact_mod_cast not_lt.1 h
    rw [abs_of_nonneg hr]; push_cast; rfl

/-- The absolute value of the difference, taken in floats. -/
theorem absf_diff (x y : Fin 256) : FloatOps.absf (F := Ideal) (φ := .f32) ((diff x y : ℝ) : EReal) = ((wDis x y : ℝ) : EReal) := by
  show max ((diff x y : ℝ) : EReal) (-((diff x y : ℝ) : EReal)) = _
  rw [← EReal.coe_neg, ← EReal.coe_strictMono.monotone.map_max]; rfl

/-- Division of reals by a real that is not zero. -/
theorem div_real (a b : ℝ) (h : b ≠ 0) : Ideal.div ((a : ℝ) : EReal) ((b : ℝ) : EReal) = ((a / b : ℝ) : EReal) := by
  rw [Ideal.div_coe h, ← EReal.coe_mul, mul_one_div]

/-- The homogeneity's weight in floats. -/
theorem hom_word (x y : Fin 256) : Ideal.div 1 (1 + ((wCon x y : ℝ) : EReal)) = ((wHom x y : ℝ) : EReal) := by
  have h : (1 + wCon x y : ℝ) ≠ 0 := by have := mul_self_nonneg (diff x y); unfold wCon; positivity
  rw [← EReal.coe_one, ← EReal.coe_add, div_real _ _ h]; rfl

section
variable (C : Fin 256 → Fin 256 → ℕ) (N : ℕ) (hN : 0 < N) (hs : ∑ i, ∑ j, C i j = N)
include hN hs

/-- The symmetric histogram adds up to twice the number of pairs. -/
theorem norm_ref : ∑ x : Fin 256, ∑ y : Fin 256, (((C x y : ℝ) : EReal) + ((C y x : ℝ) : EReal)) = ((2 * N : ℝ) : EReal) := by
  simp only [← EReal.coe_add, coe_sum]
  rw [EReal.coe_eq_coe_iff]
  simp only [Finset.sum_add_distrib]
  rw [Finset.sum_comm (f := fun x y => (C y x : ℝ)), ← hs]
  push_cast; ring

/-- One cell of the normalised symmetric histogram. -/
theorem cell_ref (x y : Fin 256) :
    Ideal.div (((C x y : ℝ) : EReal) + ((C y x : ℝ) : EReal)) (∑ x : Fin 256, ∑ y : Fin 256, (((C x y : ℝ) : EReal) + ((C y x : ℝ) : EReal)))
      = ((((C x y : ℝ) + (C y x : ℝ)) / (2 * N) : ℝ) : EReal) := by
  have h : (2 * N : ℝ) ≠ 0 := by positivity
  rw [norm_ref C N hN hs, ← EReal.coe_add, div_real _ _ h]

/-- A symmetric weight's sum over the normalised symmetric histogram is its sum over the plain one, over the number of pairs. -/
theorem wsum_ref (W : Fin 256 → Fin 256 → ℝ) (hW : ∀ x y, W x y = W y x) :
    ∑ x : Fin 256, ∑ y : Fin 256, Ideal.div (((C x y : ℝ) : EReal) + ((C y x : ℝ) : EReal))
        (∑ x : Fin 256, ∑ y : Fin 256, (((C x y : ℝ) : EReal) + ((C y x : ℝ) : EReal))) * ((W x y : ℝ) : EReal)
      = (((∑ x : Fin 256, ∑ y : Fin 256, (C x y : ℝ) * W x y) / N : ℝ) : EReal) := by
  simp only [cell_ref C N hN hs, ← EReal.coe_mul, coe_sum]
  rw [EReal.coe_eq_coe_iff]
  have h : (N : ℝ) ≠ 0 := by positivity
  have e : ∀ x y, ((C x y : ℝ) + (C y x : ℝ)) / (2 * N) * W x y = (1 / (2 * N)) * ((C x y : ℝ) * W x y) + (1 / (2 * N)) * ((C y x : ℝ) * W y x) :=
    fun x y => by rw [hW y x]; field_simp
  simp only [e, Finset.sum_add_distrib, ← Finset.mul_sum]
  rw [Finset.sum_comm (f := fun x y => (C y x : ℝ) * W y x)]
  field_simp; ring

/-- The sum of the squares of the normalised symmetric histogram. -/
theorem ssum_ref :
    ∑ x : Fin 256, ∑ y : Fin 256, Ideal.div (((C x y : ℝ) : EReal) + ((C y x : ℝ) : EReal))
        (∑ x : Fin 256, ∑ y : Fin 256, (((C x y : ℝ) : EReal) + ((C y x : ℝ) : EReal)))
        * Ideal.div (((C x y : ℝ) : EReal) + ((C y x : ℝ) : EReal))
        (∑ x : Fin 256, ∑ y : Fin 256, (((C x y : ℝ) : EReal) + ((C y x : ℝ) : EReal)))
      = (((∑ x : Fin 256, ∑ y : Fin 256, ((C x y : ℝ) + (C y x : ℝ)) * ((C x y : ℝ) + (C y x : ℝ))) / (4 * N * N) : ℝ) : EReal) := by
  simp only [cell_ref C N hN hs, ← EReal.coe_mul, coe_sum]
  rw [EReal.coe_eq_coe_iff]
  have h : (N : ℝ) ≠ 0 := by positivity
  have e : ∀ x y, ((C x y : ℝ) + (C y x : ℝ)) / (2 * N) * (((C x y : ℝ) + (C y x : ℝ)) / (2 * N))
      = (1 / (4 * N * N)) * (((C x y : ℝ) + (C y x : ℝ)) * ((C x y : ℝ) + (C y x : ℝ))) := fun x y => by field_simp; ring
  simp only [e, ← Finset.mul_sum]
  ring
end

/-- The sum of the squares of the symmetric histogram, divided afterwards. -/
theorem ssum_ker (C : Fin 256 → Fin 256 → ℕ) (D : ℝ) (hD : D ≠ 0) :
    Ideal.div (∑ x : Fin 256, ∑ y : Fin 256, (((C x y : ℝ) : EReal) + ((C y x : ℝ) : EReal)) * (((C x y : ℝ) : EReal) + ((C y x : ℝ) : EReal))) ((D : ℝ) : EReal)
      = (((∑ x : Fin 256, ∑ y : Fin 256, ((C x y : ℝ) + (C y x : ℝ)) * ((C x y : ℝ) + (C y x : ℝ))) / D : ℝ) : EReal) := by
  simp only [← EReal.coe_add, ← EReal.coe_mul, coe_sum]
  exact div_real _ _ hD

/-- A weight's sum over the four histograms added up, each over its number of pairs. -/
theorem wsum_ker (C1 C2 C3 C4 : Fin 256 → Fin 256 → ℕ) (M N : ℝ) (hM : M ≠ 0) (hN : N ≠ 0) (W : Fin 256 → Fin 256 → ℝ) :
    ∑ x : Fin 256, ∑ y : Fin 256, (Ideal.div (((C1 x y : ℝ) : EReal) + ((C3 x y : ℝ) : EReal)) ((M : ℝ) : EReal)
        + Ideal.div (((C2 x y : ℝ) : EReal) + ((C4 x y : ℝ) : EReal)) ((N : ℝ) : EReal)) * ((W x y : ℝ) : EReal)
      = (((∑ x : Fin 256, ∑ y : Fin 256, (C1 x y : ℝ) * W x y) / M : ℝ) : EReal)
        + (((∑ x : Fin 256, ∑ y : Fin 256, (C2 x y : ℝ) * W x y) / N : ℝ) : EReal)
        + (((∑ x : Fin 256, ∑ y : Fin 256, (C3 x y : ℝ) * W x y) / M : ℝ) : EReal)
        + (((∑ x : Fin 256, ∑ y : Fin 256, (C4 x y : ℝ) * W x y) / N : ℝ) : EReal) := by
  simp only [← EReal.coe_add, div_real _ _ hM, div_real _ _ hN, ← EReal.coe_mul, coe_sum]
  rw [EReal.coe_eq_coe_iff]
  have e : ∀ x y, (((C1 x y : ℝ) + (C3 x y : ℝ)) / M + ((C2 x y : ℝ) + (C4 x y : ℝ)) / N) * W x y
      = (1 / M) * ((C1 x y : ℝ) * W x y) + (1 / N) * ((C2 x y : ℝ) * W x y) + (1 / M) * ((C3 x y : ℝ) * W x y) + (1 / N) * ((C4 x y : ℝ) * W x y) :=
    fun x y => by field_simp; ring
  simp only [e, Finset.sum_add_distrib, ← Finset.mul_sum]
  ring

/-- The literals 50176, 49952, 49729 and 4 · 49952². -/
theorem ofBits_50176 : Ideal.ofBits .f32 0x47440000#32 = ((50176 : ℝ) : EReal) := by
  simp [Ideal.ofBits, Ideal.ieee, -EReal.coe_mul]; norm_num
/-- The literal 49952. -/
theorem ofBits_49952 : Ideal.ofBits .f32 0x47432000#32 = ((49952 : ℝ) : EReal) := by
  simp [Ideal.ofBits, Ideal.ieee, -EReal.coe_mul]; norm_num
/-- The literal 49729. -/
theorem ofBits_49729 : Ideal.ofBits .f32 0x47424100#32 = ((49729 : ℝ) : EReal) := by
  simp [Ideal.ofBits, Ideal.ieee, -EReal.coe_mul]; norm_num
/-- The literal four times the square of 49952. -/
theorem ofBits_4nn : Ideal.ofBits .f32 0x5014B9C4#32 = ((4 * 49952 * 49952 : ℝ) : EReal) := by
  simp [Ideal.ofBits, Ideal.ieee, -EReal.coe_mul]; norm_num

/-- The first offset's counts. -/
def c1 (q : ℕ → ℕ → ℕ) (x y : Fin 256) : ℕ := cnt q 224 223 0 0 1 x.val y.val
/-- The second offset's counts. -/
def c2 (q : ℕ → ℕ → ℕ) (x y : Fin 256) : ℕ := cnt q 223 223 1 0 1 x.val y.val
/-- The third offset's counts. -/
def c3 (q : ℕ → ℕ → ℕ) (x y : Fin 256) : ℕ := cnt q 223 224 1 0 0 x.val y.val
/-- The fourth offset's counts. -/
def c4 (q : ℕ → ℕ → ℕ) (x y : Fin 256) : ℕ := cnt q 223 223 1 1 0 x.val y.val

/-- A weight's sum over a histogram, over its number of pairs. -/
def wpart (C : Fin 256 → Fin 256 → ℕ) (N : ℝ) (W : Fin 256 → Fin 256 → ℝ) : EReal :=
  (((∑ x : Fin 256, ∑ y : Fin 256, (C x y : ℝ) * W x y) / N : ℝ) : EReal)

/-- The sum of the squares of a symmetric histogram, normalised. -/
def spart (C : Fin 256 → Fin 256 → ℕ) (D : ℝ) : EReal :=
  (((∑ x : Fin 256, ∑ y : Fin 256, ((C x y : ℝ) + (C y x : ℝ)) * ((C x y : ℝ) + (C y x : ℝ))) / D : ℝ) : EReal)

/-- A weighted feature of a frame of levels. -/
def wfeat (q : ℕ → ℕ → ℕ) (W : Fin 256 → Fin 256 → ℝ) : EReal :=
  Ideal.div (wpart (c1 q) 49952 W + wpart (c2 q) 49729 W + wpart (c3 q) 49952 W + wpart (c4 q) 49729 W) (Ideal.ofBits .f32 0x40800000#32)

/-- The angular second moment of a frame of levels. -/
def asm (q : ℕ → ℕ → ℕ) : EReal :=
  Ideal.div (spart (c1 q) (4 * 49952 * 49952) + spart (c2 q) (4 * 49729 * 49729) + spart (c3 q) (4 * 49952 * 49952)
    + spart (c4 q) (4 * 49729 * 49729)) (Ideal.ofBits .f32 0x40800000#32)

/-- The mean of a frame of levels. -/
def mean (q : ℕ → ℕ → ℕ) : EReal :=
  Ideal.div (∑ r : Fin 224, ∑ w : Fin 224, ((q r.val w.val : ℝ) : EReal)) ((50176 : ℝ) : EReal)

/-- The standard deviation of a frame of levels. -/
def std (q : ℕ → ℕ → ℕ) : EReal :=
  Ideal.sqrt (Ideal.div (∑ r : Fin 224, ∑ w : Fin 224, (((q r.val w.val : ℝ) : EReal) - mean q) * (((q r.val w.val : ℝ) : EReal) - mean q))
    ((50176 : ℝ) : EReal))

/-- The six features of a frame of levels. -/
def feats (q : ℕ → ℕ → ℕ) : Fin 6 → EReal
  | 0 => std q
  | 1 => wfeat q wCon
  | 2 => wfeat q wDis
  | 3 => wfeat q wHom
  | 4 => asm q
  | 5 => Ideal.sqrt (asm q)

end Cert.Glcm

end
-- ==== Proof.KernelFeat.lean ====
/- The kernel's six features of a frame at the extended reals. -/
module

public import proofs.«01_k».proof.Proof.KernelHist
public import proofs.«01_k».proof.Proof.Weights

@[expose] public section

set_option maxRecDepth 16384

noncomputable section

namespace Cert.KernelIdeal.Hist

open Cert.KernelIdeal Cert.KernelIdeal.Gen Cert.KernelIdeal.Model Cert.Glcm Idealize.ShloMosaic Idealize.ShloMosaic.TcCoe Idealize.SL.Sem

/-- The named constant is four times the square of the diagonals' number of pairs. -/
theorem named_4mm : Named.named (F := Ideal) κ "four_n_diag_sq" (φ := .f32) 1343448725#32 = ((4 * 49729 * 49729 : ℝ) : EReal) := by
  have h : (4 * 49729 * 49729 : ℝ) = 9891893764 := by norm_num
  rw [h]; rfl

variable (a : Vec Ideal S1x3x1x224x224 .f32) (b : Vec Ideal S1x3x1x14x3584 .f32) (q : ℕ → ℕ → ℕ)
  (ha : ∀ r w : Fin 224, level (chan a r w) = q r.val w.val)
  (hb : ∀ (c : Fin 14) (k : Fin 3584), level (chan14 b c k) = q (16 * c.val + k.val / 224) (k.val % 224))

/-- The standard deviation. -/
theorem feat0 (ha : ∀ r w : Fin 224, level (chan a r w) = q r.val w.val) : feat a b 0 = std q := by
  show k0_pay5 (k0_pay1 a) (k0_pay4 a) = _
  pointwise [k0_pay5, k0_pay4]
  simp only [pay1_at, ha, ofBits_50176]
  rfl

include ha hb

/-- A weighted feature, for weights that read as the real weights `W`. -/
theorem weighted_at (w : FVec Ideal S256x256 .f32) (W : Fin 256 → Fin 256 → ℝ) (hw : ∀ x y : Fin 256, w (ix2 x y) = ((W x y : ℝ) : EReal)) :
    weighted a b w = wfeat q W := by
  pointwise [weighted, htot]
  simp only [hw, h1_at a b q ha hb, h2_at a b q ha hb, h3_at a b q ha hb, h4_at a b q ha hb, ofBits_49952, ofBits_49729]
  exact congrArg (Ideal.div · _) (wsum_ker (c1 q) (c2 q) (c3 q) (c4 q) 49952 49729 (by norm_num) (by norm_num) W)

/-- The contrast. -/
theorem feat1 : feat a b 1 = wfeat q wCon := by
  refine weighted_at a b q ha hb wcon wCon fun x y => ?_
  pointwise [wcon, dlev]
  rw [sub_word, ← EReal.coe_mul]; rfl

/-- The dissimilarity. -/
theorem feat2 : feat a b 2 = wfeat q wDis := by
  refine weighted_at a b q ha hb wdis wDis fun x y => ?_
  pointwise [wdis, dlev]
  rw [sub_word]; exact absf_diff x y

/-- The homogeneity. -/
theorem feat3 : feat a b 3 = wfeat q wHom := by
  refine weighted_at a b q ha hb whom wHom fun x y => ?_
  pointwise [whom, wcon, dlev]
  rw [sub_word, ← EReal.coe_mul]; exact hom_word x y

/-- The angular second moment. -/
theorem feat4 : feat a b 4 = asm q := by
  show k0_pay143 (h1 a b) (h2 a b) (h3 a b) (h4 a b) = _
  pointwise [k0_pay143]
  simp only [h1_at a b q ha hb, h2_at a b q ha hb, h3_at a b q ha hb, h4_at a b q ha hb, ofBits_4nn]
  have e1 := ssum_ker (c1 q) (4 * 49952 * 49952) (by norm_num)
  have e2 := ssum_ker (c2 q) (4 * 49729 * 49729) (by norm_num)
  have e3 := ssum_ker (c3 q) (4 * 49952 * 49952) (by norm_num)
  have e4 := ssum_ker (c4 q) (4 * 49729 * 49729) (by norm_num)
  exact congrArg (Ideal.div · _) (congrArg₂ (· + ·) (congrArg₂ (· + ·) (congrArg₂ (· + ·) e1 ((congrArg (Ideal.div _) named_4mm).trans e2)) e3) ((congrArg (Ideal.div _) named_4mm).trans e4))

/-- The energy. -/
theorem feat5 : feat a b 5 = Ideal.sqrt (asm q) :=
  congrArg Ideal.sqrt (feat4 a b q ha hb)

/-- All six. -/
theorem feat_at (k : Fin 6) : feat a b k = feats q k := by
  match k with
  | 0 => exact feat0 a b q ha
  | 1 => exact feat1 a b q ha hb
  | 2 => exact feat2 a b q ha hb
  | 3 => exact feat3 a b q ha hb
  | 4 => exact feat4 a b q ha hb
  | 5 => exact feat5 a b q ha hb

end Cert.KernelIdeal.Hist

end
-- ==== Proof.Stored.lean ====
/- The twelve stores of the kernel's body: element (s, 0, k) of the block it leaves is feature `k` of frame `s` of the
   blocks it loads. -/
module

public import proofs.«01_k».proof.Proof.Model
public import Idealize.ShloMosaic.Lib.Pointwise
public import Idealize.ShloMosaic.Lib.WholeRead
public import Idealize.ShloMosaic.Lib.Pipeline.ValueKit
public import Idealize.ShloMosaic.Lib.Pipeline.ReadBack

@[expose] public section

set_option maxRecDepth 65536

noncomputable section

namespace Cert.KernelIdeal.Stored

open Cert.KernelIdeal Cert.KernelIdeal.Gen Cert.KernelIdeal.Model Idealize.ShloMosaic Idealize.ShloMosaic.TcCoe Idealize.SL.Sem

variable {F : FTy → Type} [FloatOps F] [Named F]

/-- Frame `s` of a block of two frames. -/
def frameA (x0 : Vec F S1x3x2x224x224 .f32) (s : Fin 2) : Vec F S1x3x1x224x224 .f32 :=
  fun j => x0 (ix5 (0 : Fin 1) (j 1 : Fin 3) s (j 3 : Fin 224) (j 4 : Fin 224))

/-- Frame `s` of a block of two frames cut into fourteen rows each. -/
def frameB (x1 : Vec F S1x3x2x14x3584 .f32) (s : Fin 2) : Vec F S1x3x1x14x3584 .f32 :=
  fun j => x1 (ix5 (0 : Fin 1) (j 1 : Fin 3) s (j 3 : Fin 14) (j 4 : Fin 3584))

variable (c : Dev nD) (i : grid0.Coords) (arg1 : Memref sig .tc .vmem S1x3x2x224x224 .f32) (harg1 : arg1.IsWhole)
  (arg2 : Memref sig .tc .vmem S1x3x2x14x3584 .f32) (harg2 : arg2.IsWhole)
  (arg3 : Memref sig .tc .smem S2x1x6 .f32) (harg3 : arg3.IsWhole)
  (x0 : Vec F S1x3x2x224x224 .f32) (x1 : Vec F S1x3x2x14x3584 .f32)

/-- The first load: frame 0. -/
def ldA0 : Vec F S1x3x1x224x224 .f32 :=
  View.readAt (Elt F) arg1.view (Rect.unit (s := S1x3x2x224x224) ![0, 0, 0, 0, 0] S1x3x1x224x224.size inb_S1x3x2x224x224_S1x3x1x224x224_0_0_0_0_0).toLoadRect (harg1.unread x0)
/-- The second load: frame 0, cut. -/
def ldB0 : Vec F S1x3x1x14x3584 .f32 :=
  View.readAt (Elt F) arg2.view (Rect.unit (s := S1x3x2x14x3584) ![0, 0, 0, 0, 0] S1x3x1x14x3584.size inb_S1x3x2x14x3584_S1x3x1x14x3584_0_0_0_0_0).toLoadRect (harg2.unread x1)
/-- The third load: frame 1. -/
def ldA1 : Vec F S1x3x1x224x224 .f32 :=
  View.readAt (Elt F) arg1.view (Rect.unit (s := S1x3x2x224x224) ![0, 0, 1, 0, 0] S1x3x1x224x224.size inb_S1x3x2x224x224_S1x3x1x224x224_0_0_1_0_0).toLoadRect (harg1.unread x0)
/-- The fourth load: frame 1, cut. -/
def ldB1 : Vec F S1x3x1x14x3584 .f32 :=
  View.readAt (Elt F) arg2.view (Rect.unit (s := S1x3x2x14x3584) ![0, 0, 1, 0, 0] S1x3x1x14x3584.size inb_S1x3x2x14x3584_S1x3x1x14x3584_0_0_1_0_0).toLoadRect (harg2.unread x1)

/-- The first load of the first window is its first frame. -/
theorem ldA0_eq : ldA0 arg1 harg1 x0 = frameA x0 0 := by
  funext j
  refine (harg1.readAt_unread x0 (Rect.unit (s := S1x3x2x224x224) ![0, 0, 0, 0, 0] S1x3x1x224x224.size inb_S1x3x2x224x224_S1x3x1x224x224_0_0_0_0_0).toLoadRect j).trans (congrArg x0 ?_)
  funext a; apply Fin.ext
  match a with
  | ⟨0, _⟩ => have : (j 0).val < 1 := (j 0).isLt; show 0 + 1 * (j 0).val = 0; omega
  | ⟨1, _⟩ => show 0 + 1 * (j 1).val = (j 1).val; omega
  | ⟨2, _⟩ => have : (j 2).val < 1 := (j 2).isLt; show 0 + 1 * (j 2).val = 0; omega
  | ⟨3, _⟩ => show 0 + 1 * (j 3).val = (j 3).val; omega
  | ⟨4, _⟩ => show 0 + 1 * (j 4).val = (j 4).val; omega

/-- The first load of the second window is its first frame. -/
theorem ldB0_eq : ldB0 arg2 harg2 x1 = frameB x1 0 := by
  funext j
  refine (harg2.readAt_unread x1 (Rect.unit (s := S1x3x2x14x3584) ![0, 0, 0, 0, 0] S1x3x1x14x3584.size inb_S1x3x2x14x3584_S1x3x1x14x3584_0_0_0_0_0).toLoadRect j).trans (congrArg x1 ?_)
  funext a; apply Fin.ext
  match a with
  | ⟨0, _⟩ => have : (j 0).val < 1 := (j 0).isLt; show 0 + 1 * (j 0).val = 0; omega
  | ⟨1, _⟩ => show 0 + 1 * (j 1).val = (j 1).val; omega
  | ⟨2, _⟩ => have : (j 2).val < 1 := (j 2).isLt; show 0 + 1 * (j 2).val = 0; omega
  | ⟨3, _⟩ => show 0 + 1 * (j 3).val = (j 3).val; omega
  | ⟨4, _⟩ => show 0 + 1 * (j 4).val = (j 4).val; omega

/-- The second load of the first window is its second frame. -/
theorem ldA1_eq : ldA1 arg1 harg1 x0 = frameA x0 1 := by
  funext j
  refine (harg1.readAt_unread x0 (Rect.unit (s := S1x3x2x224x224) ![0, 0, 1, 0, 0] S1x3x1x224x224.size inb_S1x3x2x224x224_S1x3x1x224x224_0_0_1_0_0).toLoadRect j).trans (congrArg x0 ?_)
  funext a; apply Fin.ext
  match a with
  | ⟨0, _⟩ => have : (j 0).val < 1 := (j 0).isLt; show 0 + 1 * (j 0).val = 0; omega
  | ⟨1, _⟩ => show 0 + 1 * (j 1).val = (j 1).val; omega
  | ⟨2, _⟩ => have : (j 2).val < 1 := (j 2).isLt; show 1 + 1 * (j 2).val = 1; omega
  | ⟨3, _⟩ => show 0 + 1 * (j 3).val = (j 3).val; omega
  | ⟨4, _⟩ => show 0 + 1 * (j 4).val = (j 4).val; omega

/-- The second load of the second window is its second frame. -/
theorem ldB1_eq : ldB1 arg2 harg2 x1 = frameB x1 1 := by
  funext j
  refine (harg2.readAt_unread x1 (Rect.unit (s := S1x3x2x14x3584) ![0, 0, 1, 0, 0] S1x3x1x14x3584.size inb_S1x3x2x14x3584_S1x3x1x14x3584_0_0_1_0_0).toLoadRect j).trans (congrArg x1 ?_)
  funext a; apply Fin.ext
  match a with
  | ⟨0, _⟩ => have : (j 0).val < 1 := (j 0).isLt; show 0 + 1 * (j 0).val = 0; omega
  | ⟨1, _⟩ => show 0 + 1 * (j 1).val = (j 1).val; omega
  | ⟨2, _⟩ => have : (j 2).val < 1 := (j 2).isLt; show 1 + 1 * (j 2).val = 1; omega
  | ⟨3, _⟩ => show 0 + 1 * (j 3).val = (j 3).val; omega
  | ⟨4, _⟩ => show 0 + 1 * (j 4).val = (j 4).val; omega

/-- What frame 0's six stores write. -/
theorem stores0 :
    kernelRun0_A.sl.v55 c arg1 harg1 x0 = feat (ldA0 arg1 harg1 x0) (ldB0 arg2 harg2 x1) 0
    ∧ kernelRun0_A.sl.v740 c arg1 harg1 arg2 harg2 x0 x1 = feat (ldA0 arg1 harg1 x0) (ldB0 arg2 harg2 x1) 1
    ∧ kernelRun0_A.sl.v746 c arg1 harg1 arg2 harg2 x0 x1 = feat (ldA0 arg1 harg1 x0) (ldB0 arg2 harg2 x1) 2
    ∧ kernelRun0_A.sl.v752 c arg1 harg1 arg2 harg2 x0 x1 = feat (ldA0 arg1 harg1 x0) (ldB0 arg2 harg2 x1) 3
    ∧ kernelRun0_A.sl.r_2 c arg1 harg1 arg2 harg2 x0 x1 = feat (ldA0 arg1 harg1 x0) (ldB0 arg2 harg2 x1) 4
    ∧ kernelRun0_A.sl.r_3 c arg1 harg1 arg2 harg2 x0 x1 = feat (ldA0 arg1 harg1 x0) (ldB0 arg2 harg2 x1) 5 :=
  ⟨rfl, rfl, rfl, rfl, rfl, rfl⟩

/-- What frame 1's six stores write. -/
theorem stores1 :
    kernelRun0_A.sl.v852 c arg1 harg1 x0 = feat (ldA1 arg1 harg1 x0) (ldB1 arg2 harg2 x1) 0
    ∧ kernelRun0_A.sl.r_8 c arg1 harg1 arg2 harg2 x0 x1 = feat (ldA1 arg1 harg1 x0) (ldB1 arg2 harg2 x1) 1
    ∧ kernelRun0_A.sl.r_9 c arg1 harg1 arg2 harg2 x0 x1 = feat (ldA1 arg1 harg1 x0) (ldB1 arg2 harg2 x1) 2
    ∧ kernelRun0_A.sl.r_10 c arg1 harg1 arg2 harg2 x0 x1 = feat (ldA1 arg1 harg1 x0) (ldB1 arg2 harg2 x1) 3
    ∧ kernelRun0_A.sl.r_17 c arg1 harg1 arg2 harg2 x0 x1 = feat (ldA1 arg1 harg1 x0) (ldB1 arg2 harg2 x1) 4
    ∧ kernelRun0_A.sl.r_18 c arg1 harg1 arg2 harg2 x0 x1 = feat (ldA1 arg1 harg1 x0) (ldB1 arg2 harg2 x1) 5 :=
  ⟨rfl, rfl, rfl, rfl, rfl, rfl⟩

/-- The block the body leaves. -/
def out (x0 : Vec F S1x3x2x224x224 .f32) (x1 : Vec F S1x3x2x14x3584 .f32) : Vec F S2x1x6 .f32 :=
  fun y => feat (frameA x0 (y 0 : Fin 2)) (frameB x1 (y 0 : Fin 2)) (y 2 : Fin 6)

/-- A one-element index is the zero index. -/
theorem one_idx (x : S1x1x1.Idx) : x = ix3 (0 : Fin 1) (0 : Fin 1) (0 : Fin 1) := by
  idx_vars x
  congr 1 <;> exact Subsingleton.elim _ _

/-- The body leaves `out` of the two blocks it loads. -/
theorem out_eq : out0_A_2 c i arg1 harg1 arg2 harg2 arg3 harg3 x0 x1 = out x0 x1 := by
  have s0 := stores0 c arg1 harg1 arg2 harg2 x0 x1
  have s1 := stores1 c arg1 harg1 arg2 harg2 x0 x1
  rw [ldA0_eq, ldB0_eq] at s0
  rw [ldA1_eq, ldB1_eq] at s1
  unfold out0_A_2
  rw [View.read_writes_junk_eq_canon]
  funext y
  have hc := cover0_A_2 c i arg1 harg1 arg2 harg2 arg3 harg3 x0 x1 y
  rw [← List.append_nil (kernelRun0_A c i arg1 harg1 arg2 harg2 arg3 harg3 x0 x1).1]
  refine View.canon_append_of_piecesOf (out x0 x1) [] _ ?_ y hc
  refine ⟨fun x => ?_, fun x => ?_, fun x => ?_, fun x => ?_, fun x => ?_, fun x => ?_,
    fun x => ?_, fun x => ?_, fun x => ?_, fun x => ?_, fun x => ?_, fun x => ?_, trivial⟩ <;>
  obtain rfl := one_idx x
  · exact s1.2.2.2.2.2
  · exact s1.2.2.2.2.1
  · exact s1.2.2.2.1
  · exact s1.2.2.1
  · exact s1.2.1
  · exact s1.1
  · exact s0.2.2.2.2.2
  · exact s0.2.2.2.2.1
  · exact s0.2.2.2.1
  · exact s0.2.2.1
  · exact s0.2.1
  · exact s0.1

end Cert.KernelIdeal.Stored

end
-- ==== Proof.KernelArray.lean ====
/- The kernel's result array at the extended reals: row `n` is the six features of frame `n`. -/
module

public import proofs.«01_k».proof.Proof.KernelFeat
public import proofs.«01_k».proof.Proof.Stored
public import proofs.«01_k».proof.Proof.Gen.KernelIdeal.Value
public import Idealize.ShloMosaic.Lib.Pipeline.ValueKit

@[expose] public section

set_option maxRecDepth 16384

noncomputable section

namespace Cert.KernelIdeal.Arr

open Cert.KernelIdeal Cert.KernelIdeal.Gen Cert.KernelIdeal.Model Cert.Glcm Idealize.ShloMosaic Idealize.ShloMosaic.TcCoe Idealize.SL.Sem

/-- The sum of a pixel's channels in frame `n` of the whole argument. -/
def pix (x : FVec Ideal S32x3x8x224x224 .f32) (n : Fin 256) (r w : Fin 224) : EReal :=
  x (ix5 (⟨n.val / 8, by omega⟩ : Fin 32) (0 : Fin 3) (⟨n.val % 8, by omega⟩ : Fin 8) r w)
    + x (ix5 (⟨n.val / 8, by omega⟩ : Fin 32) (1 : Fin 3) (⟨n.val % 8, by omega⟩ : Fin 8) r w)
    + x (ix5 (⟨n.val / 8, by omega⟩ : Fin 32) (2 : Fin 3) (⟨n.val % 8, by omega⟩ : Fin 8) r w)

/-- The windows' block indices at grid point `t`. -/
theorem idx : ∀ t : Fin cfg0.N, win0_0.index t = ![t.val / 4, 0, t.val % 4, 0, 0] ∧ win0_1.index t = ![t.val / 4, 0, t.val % 4, 0, 0]
    ∧ win0_2.index t = ![t.val, 0, 0] :=
  (by decide +kernel : ∀ t : Fin grid0.N, _)

variable (m : (ℓ : Loc nD τ sig) → Buf (Elt Ideal) ℓ) (c : Dev nD)

/-- The argument. -/
def arg : FVec Ideal S32x3x8x224x224 .f32 := m ((c : Thread nD τ).loc main_arg0)

/-- The frame that sub-step `s` of grid point `t` computes. -/
def fr (t : Fin cfg0.N) (s : Fin 2) : Fin 256 := ⟨2 * t.val + s.val, by have := t.isLt; have h : cfg0.N = 128 := N_0; omega⟩

/-- The first window's block is two consecutive frames of the argument. -/
theorem in0_at (t : Fin cfg0.N) (s : Fin 2) (k : Fin 3) (r w : Fin 224) :
    @Eq EReal (iblk m c 0 t (ix5 0 k s r w))
      (arg m c (ix5 (⟨(fr t s).val / 8, by omega⟩ : Fin 32) k (⟨(fr t s).val % 8, by omega⟩ : Fin 8) r w)) := by
  unfold arg fr
  blk_ext [iblk, V, idx t]

/-- The second window's block is the same frames cut into fourteen rows. -/
theorem in1_at (t : Fin cfg0.N) (s : Fin 2) (k : Fin 3) (a : Fin 14) (j : Fin 3584) :
    @Eq EReal (iblk m c 1 t (ix5 0 k s a j))
      (arg m c (ix5 (⟨(fr t s).val / 8, by omega⟩ : Fin 32) k (⟨(fr t s).val % 8, by omega⟩ : Fin 8)
        (⟨16 * a.val + j.val / 224, by omega⟩ : Fin 224) (⟨j.val % 224, by omega⟩ : Fin 224))) := by
  unfold arg fr
  blk_simp [iblk]
  entry_read
  pointwise
  blk_ext [idx t]

/-- The array whose row `n` is frame `n`'s features. -/
def G : FVec Ideal S256x1x6 .f32 := fun i => feats (img (pix (arg m c) (i 0))) (i 2)

/-- What a grid point stores, element by element. -/
theorem point (t : Fin cfg0.N) (y : S2x1x6.Idx) :
    @Eq EReal (Stored.out (F := Ideal) (iblk m c 0 t) (iblk m c 1 t) y) (feats (img (pix (arg m c) (fr t (y 0)))) (y 2)) := by
  refine Hist.feat_at _ _ (img (pix (arg m c) (fr t (y 0)))) (fun r w => ?_) (fun a j => ?_) (y 2)
  · rw [img_at _ _ _ r.isLt w.isLt]
    refine congrArg level ?_
    exact congrArg₂ (· + ·) (congrArg₂ (· + ·) (in0_at m c t (y 0) 0 r w) (in0_at m c t (y 0) 1 r w)) (in0_at m c t (y 0) 2 r w)
  · rw [img_at _ _ _ (by omega) (by omega)]
    refine congrArg level ?_
    exact congrArg₂ (· + ·) (congrArg₂ (· + ·) (in1_at m c t (y 0) 0 a j) (in1_at m c t (y 0) 1 a j)) (in1_at m c t (y 0) 2 a j)

/-- The result array after the run. -/
theorem final : (dats m 0 c).arrAt 2 cfg0.N = G m c := by
  refine (dats m 0 c).arrAt_eq_of_covers 2 _ (by decide +kernel) fun t _ y => ?_
  blk_simp
  rw [after0_2]
  unfold outsAt0
  rw [Stored.out_eq]
  refine (point m c t y).trans ?_
  show _ = feats (img (pix (arg m c) _)) _
  refine congrArg₂ (fun n k => feats (img (pix (arg m c) n)) k) (Fin.ext ?_) (Fin.ext ?_)
  · blk_simp [idx t]
    show 2 * t.val + (y 0).val = _
    omega
  · blk_simp [idx t]

end Cert.KernelIdeal.Arr

end
-- ==== Proof.RefHist.lean ====
/- The reference's quantised frames and its four histograms at the extended reals: each histogram's element is the count of
   pixel pairs with those two levels. -/
module

public import proofs.«01_k».proof.Proof.Gen.ReferenceIdeal.Run
public import proofs.«01_k».proof.Proof.Level
public import Idealize.ShloMosaic.Lib.Routing.OpsPair

@[expose] public section

set_option maxRecDepth 16384

noncomputable section

namespace Cert.ReferenceIdeal.Hist

open Cert.ReferenceIdeal Cert.ReferenceIdeal.Gen Cert.ReferenceIdeal.Value Cert.Glcm Idealize.ShloMosaic Idealize.ShloMosaic.TcCoe Idealize.SL.Sem Idealize.ShloMosaic.StableHlo

/-- The sum of a pixel's channels in frame `n`. -/
def chan (x : FVec Ideal S32x3x8x224x224 .f32) (n : Fin 256) (r w : Fin 224) : EReal :=
  x (ix5 (⟨n.val / 8, by omega⟩ : Fin 32) (0 : Fin 3) (⟨n.val % 8, by omega⟩ : Fin 8) r w)
    + x (ix5 (⟨n.val / 8, by omega⟩ : Fin 32) (1 : Fin 3) (⟨n.val % 8, by omega⟩ : Fin 8) r w)
    + x (ix5 (⟨n.val / 8, by omega⟩ : Fin 32) (2 : Fin 3) (⟨n.val % 8, by omega⟩ : Fin 8) r w)

variable (V0 : Valuation τ sig (Elt Ideal))

/-- The reference's argument. -/
def arg : FVec Ideal S32x3x8x224x224 .f32 := V0 (Proc.devRef .tc main_arg0)

/-- Frame `n` as levels. -/
def q (n : Fin 256) : ℕ → ℕ → ℕ := img (chan (arg V0) n)

/-- Every level is below 256. -/
theorem q_lt (n : Fin 256) (r w : ℕ) : q V0 n r w < 256 := img_lt _ r w

/-- The literal words 255 and 0 as floats. -/
theorem sitofp_255 : FloatOps.sitofp (F := Ideal) .f32 255#32 = Ideal.ofBits .f32 0x437F0000#32 := by
  rw [ofBits_255]
  show (((255#32 : BitVec 32).toInt : ℝ) : EReal) = _
  rw [show (255#32 : BitVec 32).toInt = 255 from by decide]; norm_num
/-- The literal word 0 as a float. -/
theorem sitofp_0 : FloatOps.sitofp (F := Ideal) .f32 0#32 = (0 : EReal) := by
  show (((0#32 : BitVec 32).toInt : ℝ) : EReal) = _
  rw [show (0#32 : BitVec 32).toInt = 0 from by decide]; norm_num

/-- The quantised frames. -/
theorem v8_at (n : Fin 256) (r w : Fin 224) :
    @Eq (BitVec 32) (res_main_v8 V0 (ix3 n r w)) (BitVec.ofNat 32 (q V0 n r.val w.val)) := by
  have hq : q V0 n r.val w.val = level (chan (arg V0) n r w) := img_at _ _ _ r.isLt w.isLt
  rw [hq]
  pointwise [res_main_v8]
  rw [sitofp_255, sitofp_0, Fin.sum_univ_three]
  exact (congrArg (Ideal.fptosi 32) (quant_eq (chan (arg V0) n r w))).trans (fptosi_nat _ (level_lt _))

/-- A scatter of ones by pairs of index words counts, at each element of a row, the row's words that name it. -/
theorem scatter_ones {M : ℕ} (d : ScatterDims (Routing.shape2 256 65536) (Routing.shape3 256 M 2) (Routing.shape2 256 M))
    (hiw : d.insertedWindowDims = [0, 1]) (hsd : d.scatterDimsToOperandDims = [0, 1]) (hivd : d.indexVectorDim = 2)
    (x : FVec Ideal (Routing.shape2 256 65536) .f32) (idx : IVec (Routing.shape3 256 M 2) 32) (upd : FVec Ideal (Routing.shape2 256 M) .f32)
    (hx : ∀ i, x i = (0 : EReal)) (hu : ∀ i, upd i = (1 : EReal)) (p : Fin 256 → ℕ → ℕ) (hp : ∀ a k, p a k < 65536)
    (h0 : ∀ (a : Fin 256) (k : Fin M), idx (ix3 a k 0) = BitVec.ofNat 32 a.val)
    (h1 : ∀ (a : Fin 256) (k : Fin M), idx (ix3 a k 1) = BitVec.ofNat 32 (p a k.val)) (n : Fin 256) (cell : Fin 65536) :
    Host.scatterAdd d x idx upd (ix2 n cell) = (((∑ k ∈ Finset.range M, if p n k = cell.val then 1 else 0 : ℕ) : ℝ) : EReal) := by
  have hn : ∀ y : ℕ, y < 65536 → (BitVec.ofNat 32 y).toInt = (y : ℤ) := fun y hy => by
    rw [BitVec.toInt_ofNat', Int.bmod_eq_of_le] <;> omega
  have lands : ∀ (a : Fin 256) (k : Fin M), d.resultIdx? (ix2 a k) idx = some (ix2 n cell) ↔ a = n ∧ p n k.val = cell.val := fun a k => by
    refine (Routing.scatter_lands2 d hiw hsd hivd idx a k n cell).trans ?_
    have g0 : idx (ValueIdx.ix3 a k 0) = BitVec.ofNat 32 a.val := h0 a k
    have g1 : idx (ValueIdx.ix3 a k 1) = BitVec.ofNat 32 (p a k.val) := h1 a k
    rw [g0, g1, hn a.val (by omega), hn _ (hp a k.val)]
    constructor
    · rintro ⟨e1, e2⟩
      have : a = n := Fin.ext (by exact_mod_cast e1)
      subst this; exact ⟨rfl, by exact_mod_cast e2⟩
    · rintro ⟨rfl, e2⟩; exact ⟨rfl, by exact_mod_cast e2⟩
  show (x (ix2 n cell) : EReal) + ∑ j ∈ Finset.univ.filter (fun j => d.resultIdx? j idx = some (ix2 n cell)), (upd j : EReal) = _
  rw [hx, zero_add, Finset.sum_filter, Finset.sum_range, Nat.cast_sum, ← coe_sum]
  have hs : ∀ f : (Routing.shape2 256 M).Idx → EReal, ∑ j, f j = ∑ a : Fin 256, ∑ k : Fin M, f (ix2 a k) := fun f => sum_idx2 f
  rw [hs, Finset.sum_eq_single n]
  · refine Finset.sum_congr rfl fun k _ => ?_
    by_cases e : p n k.val = cell.val
    · rw [if_pos ((lands n k).2 ⟨rfl, e⟩), if_pos e, hu]; norm_num
    · rw [if_neg fun h => e ((lands n k).1 h).2, if_neg e]; norm_num
  · intro a _ ha
    exact Finset.sum_eq_zero fun k _ => if_neg fun h => ha ((lands a k).1 h).1
  · intro h; exact absurd (Finset.mem_univ n) h

/-- The word `a * 256 + b` of two levels. -/
theorem pair_word (a b : ℕ) : IntOp.addi (IntOp.muli (BitVec.ofNat 32 a) 256#32) (BitVec.ofNat 32 b) = BitVec.ofNat 32 (a * 256 + b) := by
  show BitVec.ofNat 32 a * 256#32 + BitVec.ofNat 32 b = _
  apply BitVec.eq_of_toNat_eq
  simp [BitVec.toNat_add, BitVec.toNat_mul, BitVec.toNat_ofNat]

/-- A small word is left as it is by jnp's wrap. -/
theorem wrap_word (a : BitVec 32) (y : ℕ) (hy : y < 65536) :
    Scalar.select (IntOp.cmpi .slt (BitVec.ofNat 32 y) 0#32) a (BitVec.ofNat 32 y) = BitVec.ofNat 32 y :=
  Routing.wrap_of_lt _ a (by rw [BitVec.toNat_ofNat]; omega)

/-- The count of a window's positions whose pair of levels is cell `i * 256 + j`. -/
theorem cnt_cell (q : ℕ → ℕ → ℕ) (hq : ∀ r w, q r w < 256) (H W dr ac bc : ℕ) (i j : Fin 256) :
    ∑ k ∈ Finset.range (H * W), (if q (k / W) (k % W + ac) * 256 + q (k / W + dr) (k % W + bc) = i.val * 256 + j.val then 1 else 0)
      = cnt q H W dr ac bc i.val j.val := by
  rw [sum_divmod H W fun r w => if q r (w + ac) * 256 + q (r + dr) (w + bc) = i.val * 256 + j.val then 1 else 0]
  unfold cnt
  refine Finset.sum_congr rfl fun r _ => Finset.sum_congr rfl fun w _ => ?_
  have h1 := hq r (w + ac); have h2 := hq (r + dr) (w + bc)
  have h3 := i.isLt; have h4 := j.isLt
  refine if_congr ⟨fun h => ⟨by omega, by omega⟩, fun h => by rw [h.1, h.2]⟩ rfl rfl

/-- The four arrays of pairs of levels. -/
theorem v32_at (n : Fin 256) (k : Fin 49952) : @Eq (BitVec 32) (res_main_v32 V0 (ix2 n k))
    (BitVec.ofNat 32 (q V0 n (k.val / 223) (k.val % 223 + 0) * 256 + q V0 n (k.val / 223 + 0) (k.val % 223 + 1))) := by
  pointwise [res_main_v32]
  rw [v8_at, v8_at, pair_word]
  simp only [Nat.add_zero, Nat.add_comm]
/-- The second offset's cell numbers. -/
theorem v84_at (n : Fin 256) (k : Fin 49729) : @Eq (BitVec 32) (res_main_v84 V0 (ix2 n k))
    (BitVec.ofNat 32 (q V0 n (k.val / 223) (k.val % 223 + 0) * 256 + q V0 n (k.val / 223 + 1) (k.val % 223 + 1))) := by
  pointwise [res_main_v84]
  rw [v8_at, v8_at, pair_word]
  simp only [Nat.add_zero, Nat.add_comm]
/-- The third offset's cell numbers. -/
theorem v132_at (n : Fin 256) (k : Fin 49952) : @Eq (BitVec 32) (res_main_v132 V0 (ix2 n k))
    (BitVec.ofNat 32 (q V0 n (k.val / 224) (k.val % 224 + 0) * 256 + q V0 n (k.val / 224 + 1) (k.val % 224 + 0))) := by
  pointwise [res_main_v132]
  rw [v8_at, v8_at, pair_word]
  simp only [Nat.add_zero, Nat.add_comm]
/-- The fourth offset's cell numbers. -/
theorem v180_at (n : Fin 256) (k : Fin 49729) : @Eq (BitVec 32) (res_main_v180 V0 (ix2 n k))
    (BitVec.ofNat 32 (q V0 n (k.val / 223) (k.val % 223 + 1) * 256 + q V0 n (k.val / 223 + 1) (k.val % 223 + 0))) := by
  pointwise [res_main_v180]
  rw [v8_at, v8_at, pair_word]
  simp only [Nat.add_zero, Nat.add_comm]

/-- A pair of levels names one of 65536 cells. -/
theorem pair_lt (n : Fin 256) (r w r' w' : ℕ) : q V0 n r w * 256 + q V0 n r' w' < 65536 := by
  have := q_lt V0 n r w; have := q_lt V0 n r' w'; omega

/-- The histogram of offset (0, 1). -/
theorem v50_at (n i j : Fin 256) : @Eq EReal (res_main_v50 V0 (ix3 n i j)) ((cnt (q V0 n) 224 223 0 0 1 i.val j.val : ℝ) : EReal) := by
  rw [← cnt_cell (q V0 n) (q_lt V0 n) 224 223 0 0 1 i j]
  pointwise [res_main_v50]
  refine scatter_ones scatter_S256x65536_S256x49952x2_S256x49952_n_01_01_2 rfl rfl rfl _ _ _ (fun i => ?_) (fun i => ?_)
    (fun n k => q V0 n (k / 223) (k % 223 + 0) * 256 + q V0 n (k / 223 + 0) (k % 223 + 1)) (fun _ _ => pair_lt V0 _ _ _ _ _)
    (fun a k => ?_) (fun a k => ?_) n _
  · idx_vars i; pointwise
  · idx_vars i; pointwise
  · pointwise [res_main_v26]; exact wrap_word _ _ (by omega)
  · pointwise; rw [v32_at]; exact wrap_word _ _ (pair_lt V0 _ _ _ _ _)
/-- The histogram of offset (1, 1). -/
theorem v102_at (n i j : Fin 256) : @Eq EReal (res_main_v102 V0 (ix3 n i j)) ((cnt (q V0 n) 223 223 1 0 1 i.val j.val : ℝ) : EReal) := by
  rw [← cnt_cell (q V0 n) (q_lt V0 n) 223 223 1 0 1 i j]
  pointwise [res_main_v102]
  refine scatter_ones scatter_S256x65536_S256x49729x2_S256x49729_n_01_01_2 rfl rfl rfl _ _ _ (fun i => ?_) (fun i => ?_)
    (fun n k => q V0 n (k / 223) (k % 223 + 0) * 256 + q V0 n (k / 223 + 1) (k % 223 + 1)) (fun _ _ => pair_lt V0 _ _ _ _ _)
    (fun a k => ?_) (fun a k => ?_) n _
  · idx_vars i; pointwise
  · idx_vars i; pointwise
  · pointwise [res_main_v26]; exact wrap_word _ _ (by omega)
  · pointwise; rw [v84_at]; exact wrap_word _ _ (pair_lt V0 _ _ _ _ _)
/-- The histogram of offset (1, 0). -/
theorem v150_at (n i j : Fin 256) : @Eq EReal (res_main_v150 V0 (ix3 n i j)) ((cnt (q V0 n) 223 224 1 0 0 i.val j.val : ℝ) : EReal) := by
  rw [← cnt_cell (q V0 n) (q_lt V0 n) 223 224 1 0 0 i j]
  pointwise [res_main_v150]
  refine scatter_ones scatter_S256x65536_S256x49952x2_S256x49952_n_01_01_2 rfl rfl rfl _ _ _ (fun i => ?_) (fun i => ?_)
    (fun n k => q V0 n (k / 224) (k % 224 + 0) * 256 + q V0 n (k / 224 + 1) (k % 224 + 0)) (fun _ _ => pair_lt V0 _ _ _ _ _)
    (fun a k => ?_) (fun a k => ?_) n _
  · idx_vars i; pointwise
  · idx_vars i; pointwise
  · pointwise [res_main_v26]; exact wrap_word _ _ (by omega)
  · pointwise; rw [v132_at]; exact wrap_word _ _ (pair_lt V0 _ _ _ _ _)
/-- The histogram of offset (1, −1). -/
theorem v198_at (n i j : Fin 256) : @Eq EReal (res_main_v198 V0 (ix3 n i j)) ((cnt (q V0 n) 223 223 1 1 0 i.val j.val : ℝ) : EReal) := by
  rw [← cnt_cell (q V0 n) (q_lt V0 n) 223 223 1 1 0 i j]
  pointwise [res_main_v198]
  refine scatter_ones scatter_S256x65536_S256x49729x2_S256x49729_n_01_01_2 rfl rfl rfl _ _ _ (fun i => ?_) (fun i => ?_)
    (fun n k => q V0 n (k / 223) (k % 223 + 1) * 256 + q V0 n (k / 223 + 1) (k % 223 + 0)) (fun _ _ => pair_lt V0 _ _ _ _ _)
    (fun a k => ?_) (fun a k => ?_) n _
  · idx_vars i; pointwise
  · idx_vars i; pointwise
  · pointwise [res_main_v26]; exact wrap_word _ _ (by omega)
  · pointwise; rw [v180_at]; exact wrap_word _ _ (pair_lt V0 _ _ _ _ _)

end Cert.ReferenceIdeal.Hist

end
-- ==== Proof.RefFeat.lean ====
/- The reference's six features of a frame at the extended reals. -/
module

public import proofs.«01_k».proof.Proof.RefHist
public import proofs.«01_k».proof.Proof.Weights

@[expose] public section

set_option maxRecDepth 16384

noncomputable section

namespace Cert.ReferenceIdeal.Hist

open Cert.ReferenceIdeal Cert.ReferenceIdeal.Gen Cert.ReferenceIdeal.Value Cert.Glcm Idealize.ShloMosaic Idealize.ShloMosaic.TcCoe Idealize.SL.Sem Idealize.ShloMosaic.StableHlo

variable (V0 : Valuation τ sig (Elt Ideal))

/-- One cell of the normalised symmetric histogram. -/
def cell (C : Fin 256 → Fin 256 → ℕ) (x y : Fin 256) : EReal :=
  Ideal.div (((C x y : ℝ) : EReal) + ((C y x : ℝ) : EReal)) (∑ x : Fin 256, ∑ y : Fin 256, (((C x y : ℝ) : EReal) + ((C y x : ℝ) : EReal)))

/-- The first normalised histogram. -/
theorem v56_at (n x y : Fin 256) : @Eq EReal (res_main_v56 V0 (ix3 n x y)) (cell (c1 (q V0 n)) x y) := by
  pointwise [res_main_v56, res_main_v52]
  simp only [v50_at]; rfl
/-- The second normalised histogram. -/
theorem v108_at (n x y : Fin 256) : @Eq EReal (res_main_v108 V0 (ix3 n x y)) (cell (c2 (q V0 n)) x y) := by
  pointwise [res_main_v108, res_main_v104]
  simp only [v102_at]; rfl
/-- The third normalised histogram. -/
theorem v156_at (n x y : Fin 256) : @Eq EReal (res_main_v156 V0 (ix3 n x y)) (cell (c3 (q V0 n)) x y) := by
  pointwise [res_main_v156, res_main_v152]
  simp only [v150_at]; rfl
/-- The fourth normalised histogram. -/
theorem v204_at (n x y : Fin 256) : @Eq EReal (res_main_v204 V0 (ix3 n x y)) (cell (c4 (q V0 n)) x y) := by
  pointwise [res_main_v204, res_main_v200]
  simp only [v198_at]; rfl

/-- A symmetric weight's sum over one normalised histogram of `N` pairs. -/
theorem wpart_cell (C : Fin 256 → Fin 256 → ℕ) (N : ℕ) (D : ℝ) (hD : (N : ℝ) = D) (hN : 0 < N) (hs : ∑ i, ∑ j, C i j = N)
    (W : Fin 256 → Fin 256 → ℝ) (hW : ∀ x y, W x y = W y x) :
    ∑ x : Fin 256, ∑ y : Fin 256, cell C x y * ((W x y : ℝ) : EReal) = wpart C D W := by
  subst hD; exact wsum_ref C N hN hs W hW

/-- The sum of the squares of one normalised histogram of `N` pairs. -/
theorem spart_cell (C : Fin 256 → Fin 256 → ℕ) (N : ℕ) (D : ℝ) (hD : (4 * N * N : ℝ) = D) (hN : 0 < N) (hs : ∑ i, ∑ j, C i j = N) :
    ∑ x : Fin 256, ∑ y : Fin 256, cell C x y * cell C x y = spart C D := by
  subst hD; exact ssum_ref C N hN hs

/-- The first offset's number of pairs. -/
theorem tot1 (n : Fin 256) : ∑ i, ∑ j, c1 (q V0 n) i j = 49952 := (sum_cnt (q V0 n) (q_lt V0 n) 224 223 0 0 1).trans rfl
/-- The second offset's number of pairs. -/
theorem tot2 (n : Fin 256) : ∑ i, ∑ j, c2 (q V0 n) i j = 49729 := (sum_cnt (q V0 n) (q_lt V0 n) 223 223 1 0 1).trans rfl
/-- The third offset's number of pairs. -/
theorem tot3 (n : Fin 256) : ∑ i, ∑ j, c3 (q V0 n) i j = 49952 := (sum_cnt (q V0 n) (q_lt V0 n) 223 224 1 0 0).trans rfl
/-- The fourth offset's number of pairs. -/
theorem tot4 (n : Fin 256) : ∑ i, ∑ j, c4 (q V0 n) i j = 49729 := (sum_cnt (q V0 n) (q_lt V0 n) 223 223 1 1 0).trans rfl

/-- A symmetric weight's sum over the four normalised histograms, over four. -/
theorem wfeat_at (n : Fin 256) (W : Fin 256 → Fin 256 → ℝ) (hW : ∀ x y, W x y = W y x) :
    Ideal.div (∑ x : Fin 256, ∑ y : Fin 256, cell (c1 (q V0 n)) x y * ((W x y : ℝ) : EReal)
      + ∑ x : Fin 256, ∑ y : Fin 256, cell (c2 (q V0 n)) x y * ((W x y : ℝ) : EReal)
      + ∑ x : Fin 256, ∑ y : Fin 256, cell (c3 (q V0 n)) x y * ((W x y : ℝ) : EReal)
      + ∑ x : Fin 256, ∑ y : Fin 256, cell (c4 (q V0 n)) x y * ((W x y : ℝ) : EReal)) (Ideal.ofBits .f32 0x40800000#32)
      = wfeat (q V0 n) W := by
  have e1 := wpart_cell (c1 (q V0 n)) 49952 49952 (by norm_num) (by norm_num) (tot1 V0 n) W hW
  have e2 := wpart_cell (c2 (q V0 n)) 49729 49729 (by norm_num) (by norm_num) (tot2 V0 n) W hW
  have e3 := wpart_cell (c3 (q V0 n)) 49952 49952 (by norm_num) (by norm_num) (tot3 V0 n) W hW
  have e4 := wpart_cell (c4 (q V0 n)) 49729 49729 (by norm_num) (by norm_num) (tot4 V0 n) W hW
  rw [e1, e2, e3, e4]; rfl

/-- The standard deviation. -/
theorem feat0 (n : Fin 256) : @Eq EReal (res_main_v238 V0 (ix2 n 0)) (std (q V0 n)) := by
  pointwise [res_main_v238, res_main_call1_call0_v5, res_main_call1_call0_v8, res_main_v23]
  have hlt : ∀ r w : Fin 224, q V0 n r.val w.val < 256 := fun r w => q_lt V0 n _ _
  have hv : ∀ r w : Fin 224, FloatOps.sitofp (F := Ideal) .f32 (BitVec.ofNat 32 (q V0 n r.val w.val)) = ((q V0 n r.val w.val : ℝ) : EReal) := fun r w => by
    have := hlt r w
    show (((BitVec.ofNat 32 (q V0 n r.val w.val)).toInt : ℝ) : EReal) = _
    rw [BitVec.toInt_ofNat', Int.bmod_eq_of_le (by omega) (by omega), Int.cast_natCast]
  simp only [v8_at, hv, sitofp_0, sub_zero, ofBits_50176]
  rw [if_pos (by exact_mod_cast (by norm_num : (0 : ℝ) < 50176))]
  rfl

/-- The contrast. -/
theorem feat1 (n : Fin 256) : @Eq EReal (res_main_v238 V0 (ix2 n 1)) (wfeat (q V0 n) wCon) := by
  refine Eq.trans ?_ (wfeat_at V0 n wCon wCon_symm)
  pointwise [res_main_v238, res_main_v22, res_main_v18, res_main_v16, res_main_v14, res_main_v9]
  simp only [v56_at, v108_at, v156_at, v204_at, sq_word]

/-- The dissimilarity. -/
theorem feat2 (n : Fin 256) : @Eq EReal (res_main_v238 V0 (ix2 n 2)) (wfeat (q V0 n) wDis) := by
  refine Eq.trans ?_ (wfeat_at V0 n wDis wDis_symm)
  pointwise [res_main_v238, res_main_v22, res_main_v18, res_main_v16, res_main_v14, res_main_v9]
  simp only [v56_at, v108_at, v156_at, v204_at, abs_word]

/-- The homogeneity. -/
theorem feat3 (n : Fin 256) : @Eq EReal (res_main_v238 V0 (ix2 n 3)) (wfeat (q V0 n) wHom) := by
  refine Eq.trans ?_ (wfeat_at V0 n wHom wHom_symm)
  pointwise [res_main_v238, res_main_v22, res_main_v18, res_main_v16, res_main_v14, res_main_v9]
  simp only [v56_at, v108_at, v156_at, v204_at, sq_word, hom_word]

/-- The mean of the four sums of squares. -/
theorem asm_at (n : Fin 256) : @Eq EReal (res_main_v230 V0 (ix1 n)) (asm (q V0 n)) := by
  have e1 := spart_cell (c1 (q V0 n)) 49952 (4 * 49952 * 49952) (by norm_num) (by norm_num) (tot1 V0 n)
  have e2 := spart_cell (c2 (q V0 n)) 49729 (4 * 49729 * 49729) (by norm_num) (by norm_num) (tot2 V0 n)
  have e3 := spart_cell (c3 (q V0 n)) 49952 (4 * 49952 * 49952) (by norm_num) (by norm_num) (tot3 V0 n)
  have e4 := spart_cell (c4 (q V0 n)) 49729 (4 * 49729 * 49729) (by norm_num) (by norm_num) (tot4 V0 n)
  pointwise [res_main_v230]
  simp only [v56_at, v108_at, v156_at, v204_at]
  rw [e1, e2, e3, e4]; rfl

/-- The angular second moment. -/
theorem feat4 (n : Fin 256) : @Eq EReal (res_main_v238 V0 (ix2 n 4)) (asm (q V0 n)) := by
  pointwise [res_main_v238]
  exact asm_at V0 n

/-- The energy. -/
theorem feat5 (n : Fin 256) : @Eq EReal (res_main_v238 V0 (ix2 n 5)) (Ideal.sqrt (asm (q V0 n))) := by
  pointwise [res_main_v238]
  exact congrArg Ideal.sqrt (asm_at V0 n)

/-- All six. -/
theorem feat_at (n : Fin 256) (k : Fin 6) : @Eq EReal (res_main_v238 V0 (ix2 n k)) (feats (q V0 n) k) := by
  match k with
  | 0 => exact feat0 V0 n
  | 1 => exact feat1 V0 n
  | 2 => exact feat2 V0 n
  | 3 => exact feat3 V0 n
  | 4 => exact feat4 V0 n
  | 5 => exact feat5 V0 n

end Cert.ReferenceIdeal.Hist

end
-- ==== Proof.Algebraic.lean ====
/- The value claim: the kernel and the reference end with equal results. -/
module

public import proofs.«01_k».proof.Defs
public import proofs.«01_k».proof.Proof.KernelArray
public import proofs.«01_k».proof.Proof.RefFeat

@[expose] public section

set_option maxRecDepth 16384

noncomputable section

namespace Cert.ReferenceIdeal.Hist

open Cert.ReferenceIdeal Cert.ReferenceIdeal.Gen Cert.ReferenceIdeal.Value Cert.Glcm Idealize.ShloMosaic Idealize.ShloMosaic.TcCoe Idealize.SL.Sem Idealize.ShloMosaic.StableHlo

/-- The reference's result array, element by element. -/
theorem result_at (V0 : Valuation τ sig (Elt Ideal)) (n : Fin 256) (k : Fin 6) :
    @Eq EReal ((Idealize.ShloMosaic.shapeCast S256x1x6 (res_main_v238 V0) shapeCasts_S256x6_S256x1x6 : FVec Ideal S256x1x6 .f32) (ix3 n 0 k)) (feats (q V0 n) k) := by
  refine Eq.trans ?_ (feat_at V0 n k)
  pointwise

end Cert.ReferenceIdeal.Hist

namespace Cert.Proof

open Idealize.ShloMosaic Idealize.ShloMosaic.TcCoe Idealize.SL.Sem

/-- Over exact arithmetic the kernel and the reference end with equal results from equal arguments. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.KernelIdeal.Arr.final m c]
  have harg : Cert.ReferenceIdeal.Hist.arg (StableHlo.launchContents m' c) = Cert.KernelIdeal.Arr.arg m c := hagree c
  funext i
  obtain ⟨n, z, k, rfl⟩ : ∃ (n : Fin 256) (z : Fin 1) (k : Fin 6), i = ix3 n z k := ⟨i 0, i 1, i 2, by funext a; fin_cases a <;> rfl⟩
  obtain rfl : z = 0 := Subsingleton.elim _ _
  refine (Cert.ReferenceIdeal.Hist.result_at (StableHlo.launchContents m' c) n k).trans ?_
  unfold Cert.ReferenceIdeal.Hist.q
  rw [harg]
  rfl

end Cert.Proof

end
-- ==== Proof.lean ====
module

public import proofs.«01_k».proof.Defs
public import proofs.«01_k».proof.Proof.Algebraic
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The printed kernel runs, ends, leaves its argument alone and its counters at zero. -/
theorem frame_p : Cert.quiescent_Kernel := fun m ρ _ => Cert.Kernel.Gen.frame m ρ

/-- The same of the kernel over exact arithmetic. -/
theorem frame_pi : Cert.quiescent_KernelIdeal := fun m ρ _ => Cert.KernelIdeal.Gen.frame m ρ

/-- The same of the reference over exact arithmetic. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant has the value the table gives it. -/
theorem preserves : Cert.preserves_Kernel_KernelIdeal :=
  IdealRules.named_const.statement Cert.KernelIdeal.κ "four_n_diag_sq" .f32 0x50136695#32 ((9891893764 : ℝ) : EReal) rfl

/-- Every claim of the certificate. -/
theorem claim : Cert.Claim :=
  ⟨Cert.Kernel.Gen.facts, Cert.KernelIdeal.Gen.facts, Cert.ReferenceIdeal.Gen.facts,
    frame_p, frame_pi, frame_ri, preserves, algebraic⟩

end Cert.Proof

end
